-- ==== Defs.lean ====
def Pre_Kernel (m : (ℓ : Loc Cert.Kernel.nD Cert.Kernel.τ Cert.Kernel.sig) → Buf (Elt Bits) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)) →
    ∃ (v0 : (c : Dev Cert.Kernel.nD) → Buf (Elt Bits) ((c.tc : Thread Cert.Kernel.nD Cert.Kernel.τ).loc Cert.Kernel.main_v1)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v83) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2))

def Claim : Prop :=
  ∃ (hKernel : Cert.Kernel.Facts) (hReference : Cert.Reference.Facts),
    quiescent_Kernel (hKernel := hKernel)
    ∧ quiescent_Reference (hReference := hReference)
    ∧ bitexact_Kernel_Reference (hKernel := hKernel) (hReference := hReference)
-- ==== Kernel.lean ====
abbrev S3584x28672 : Shape := ⟨2, ![3584, 28672]⟩
abbrev S56x28672 : Shape := ⟨2, ![56, 28672]⟩
abbrev S16 : Shape := ⟨1, ![16]⟩
abbrev S2x3584x28672 : Shape := ⟨3, ![2, 3584, 28672]⟩
abbrev S128x7168 : Shape := ⟨2, ![128, 7168]⟩
abbrev S56x7168 : Shape := ⟨2, ![56, 7168]⟩
abbrev S2x128x7168 : Shape := ⟨3, ![2, 128, 7168]⟩
abbrev S8x128 : Shape := ⟨2, ![8, 128]⟩
abbrev S32x128 : Shape := ⟨2, ![32, 128]⟩
abbrev S1x16 : Shape := ⟨2, ![1, 16]⟩
abbrev S16x16 : Shape := ⟨2, ![16, 16]⟩
abbrev S16x128 : Shape := ⟨2, ![16, 128]⟩
abbrev S16x128x1 : Shape := ⟨3, ![16, 128, 1]⟩
abbrev S32x128x1 : Shape := ⟨3, ![32, 128, 1]⟩
abbrev S1x16x128 : Shape := ⟨3, ![1, 16, 128]⟩
abbrev S7168x28672 : Shape := ⟨2, ![7168, 28672]⟩

abbrev nBuf : Space → Nat
  | .hbm => 5
  | .vmem => 7
  | .smem => 0
  | _ => 0

abbrev bufTy : (tb : Table) → Fin (tcTables nBuf tb) → BufTy
  | .hbm, ⟨0, _⟩ => ⟨S3584x28672, .i8⟩
  | .hbm, ⟨1, _⟩ => ⟨S56x28672, .bf16⟩
  | .hbm, ⟨2, _⟩ => ⟨S16, .bf16⟩
  | .hbm, ⟨3, _⟩ => ⟨S2x3584x28672, .bf16⟩
  | .hbm, ⟨4, _⟩ => ⟨S7168x28672, .bf16⟩
  | .local _ .vmem, ⟨0, _⟩ => ⟨S128x7168, .i8⟩
  | .local _ .vmem, ⟨1, _⟩ => ⟨S128x7168, .i8⟩
  | .local _ .vmem, ⟨2, _⟩ => ⟨S56x7168, .bf16⟩
  | .local _ .vmem, ⟨3, _⟩ => ⟨S56x7168, .bf16⟩
  | .local _ .vmem, ⟨4, _⟩ => ⟨S16, .bf16⟩
  | .local _ .vmem, ⟨5, _⟩ => ⟨S2x128x7168, .bf16⟩
  | .local _ .vmem, ⟨6, _⟩ => ⟨S2x128x7168, .bf16⟩
  | _, _ => ⟨S3584x28672, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [BitOps F]

abbrev grid0 : Pipeline.Grid := ⟨2, ![4, 28], ![false, false]⟩

@[reducible] def k0_t1_loop : Scf.Loop 32 :=
  let c0_i32_4 : BitVec 32 := 0#32
  let c56_i32 : BitVec 32 := 56#32
  let v37 : BitVec 32 := Scalar.addi c0_i32_4 c56_i32
  let c1_i32_5 : BitVec 32 := 1#32
  ⟨c0_i32_4, v37, c1_i32_5⟩
def k0_mult1 (k0_t1 : Fin k0_t1_loop.trips) : BitVec 32 :=
  let c0_i32_4 : BitVec 32 := 0#32
  let c1_i32_5 : BitVec 32 := 1#32
  let arg6 : BitVec 32 := Scf.iv c0_i32_4 c1_i32_5 k0_t1
  let c128_i32 : BitVec 32 := 128#32
  let v38 : BitVec 32 := Scalar.muli arg6 c128_i32
  v38
def k0_mult2 (i : grid0.Coords) : BitVec 32 :=
  let arg1 : BitVec 32 := BitVec.ofNat 32 (i 1).val
  let c0_i32_7 : BitVec 32 := 0#32
  let v40 : BitVec 32 := Scalar.addi arg1 c0_i32_7
  let c0_i32_8 : BitVec 32 := 0#32
  let v42 : BitVec 1 := Scalar.cmpi .sgt v40 c0_i32_8
  let v43 : BitVec 32 := Scalar.extui v42
  let c0_i32_9 : BitVec 32 := 0#32
  let v44 : BitVec 1 := Scalar.cmpi .slt v40 c0_i32_9
  let v45 : BitVec 32 := Scalar.extui v44
  let v46 : BitVec 32 := Scalar.subi v43 v45
  let c8_i32 : BitVec 32 := 8#32
  let c0_i32_10 : BitVec 32 := 0#32
  let v47 : BitVec 1 := Scalar.cmpi .sgt c8_i32 c0_i32_10
  let v48 : BitVec 32 := Scalar.extui v47
  let c0_i32_11 : BitVec 32 := 0#32
  let v49 : BitVec 1 := Scalar.cmpi .slt c8_i32 c0_i32_11
  let v50 : BitVec 32 := Scalar.extui v49
  let v51 : BitVec 32 := Scalar.subi v48 v50
  let v52 : BitVec 1 := Scalar.cmpi .ne v46 v51
  let v53 : BitVec 32 := Scalar.remsi v40 c8_i32
  let c0_i32_12 : BitVec 32 := 0#32
  let v54 : BitVec 1 := Scalar.cmpi .ne v53 c0_i32_12
  let v55 : BitVec 1 := Scalar.andi v52 v54
  let v41 : BitVec 32 := Scalar.divsi v40 c8_i32
  let c1_i32_13 : BitVec 32 := 1#32
  let v56 : BitVec 32 := Scalar.subi v41 c1_i32_13
  let v57 : BitVec 32 := Scalar.select v55 v56 v41
  let c8_i32_14 : BitVec 32 := 8#32
  let v58 : BitVec 32 := Scalar.muli v57 c8_i32_14
  v58
def k0_off1 (i : grid0.Coords) (k0_t1 : Fin k0_t1_loop.trips) (c0_i32_7 : BitVec 32) : Fin 2 → Nat :=
  let arg1 : BitVec 32 := BitVec.ofNat 32 (i 1).val
  let v40 : BitVec 32 := Scalar.addi arg1 c0_i32_7
  let c0_i32_8 : BitVec 32 := 0#32
  let v42 : BitVec 1 := Scalar.cmpi .sgt v40 c0_i32_8
  let v43 : BitVec 32 := Scalar.extui v42
  let c0_i32_9 : BitVec 32 := 0#32
  let v44 : BitVec 1 := Scalar.cmpi .slt v40 c0_i32_9
  let v45 : BitVec 32 := Scalar.extui v44
  let v46 : BitVec 32 := Scalar.subi v43 v45
  let c8_i32 : BitVec 32 := 8#32
  let c0_i32_10 : BitVec 32 := 0#32
  let v47 : BitVec 1 := Scalar.cmpi .sgt c8_i32 c0_i32_10
  let v48 : BitVec 32 := Scalar.extui v47
  let c0_i32_11 : BitVec 32 := 0#32
  let v49 : BitVec 1 := Scalar.cmpi .slt c8_i32 c0_i32_11
  let v50 : BitVec 32 := Scalar.extui v49
  let v51 : BitVec 32 := Scalar.subi v48 v50
  let v52 : BitVec 1 := Scalar.cmpi .ne v46 v51
  let v53 : BitVec 32 := Scalar.remsi v40 c8_i32
  let c0_i32_12 : BitVec 32 := 0#32
  let v54 : BitVec 1 := Scalar.cmpi .ne v53 c0_i32_12
  let v55 : BitVec 1 := Scalar.andi v52 v54
  let v41 : BitVec 32 := Scalar.divsi v40 c8_i32
  let c1_i32_13 : BitVec 32 := 1#32
  let v56 : BitVec 32 := Scalar.subi v41 c1_i32_13
  let v57 : BitVec 32 := Scalar.select v55 v56 v41
  let c8_i32_14 : BitVec 32 := 8#32
  let v58 : BitVec 32 := Scalar.muli v57 c8_i32_14
  let v59 : BitVec 32 := v58
  let v60 : Index := Scalar.indexCast v59
  let c0_i32_4 : BitVec 32 := 0#32
  let c1_i32_5 : BitVec 32 := 1#32
  let arg6 : BitVec 32 := Scf.iv c0_i32_4 c1_i32_5 k0_t1
  let c128_i32 : BitVec 32 := 128#32
  let v38 : BitVec 32 := Scalar.muli arg6 c128_i32
  let v39 : BitVec 32 := v38
  let v61 : Index := Scalar.indexCast v39
  ![v60.toNat, v61.toNat]
def k0_mult3 (i : grid0.Coords) : BitVec 32 :=
  let arg1 : BitVec 32 := BitVec.ofNat 32 (i 1).val
  let c28_i32 : BitVec 32 := 28#32
  let v91 : BitVec 32 := Scalar.addi arg1 c28_i32
  let c0_i32_23 : BitVec 32 := 0#32
  let v93 : BitVec 1 := Scalar.cmpi .sgt v91 c0_i32_23
  let v94 : BitVec 32 := Scalar.extui v93
  let c0_i32_24 : BitVec 32 := 0#32
  let v95 : BitVec 1 := Scalar.cmpi .slt v91 c0_i32_24
  let v96 : BitVec 32 := Scalar.extui v95
  let v97 : BitVec 32 := Scalar.subi v94 v96
  let c8_i32_22 : BitVec 32 := 8#32
  let c0_i32_25 : BitVec 32 := 0#32
  let v98 : BitVec 1 := Scalar.cmpi .sgt c8_i32_22 c0_i32_25
  let v99 : BitVec 32 := Scalar.extui v98
  let c0_i32_26 : BitVec 32 := 0#32
  let v100 : BitVec 1 := Scalar.cmpi .slt c8_i32_22 c0_i32_26
  let v101 : BitVec 32 := Scalar.extui v100
  let v102 : BitVec 32 := Scalar.subi v99 v101
  let v103 : BitVec 1 := Scalar.cmpi .ne v97 v102
  let v104 : BitVec 32 := Scalar.remsi v91 c8_i32_22
  let c0_i32_27 : BitVec 32 := 0#32
  let v105 : BitVec 1 := Scalar.cmpi .ne v104 c0_i32_27
  let v106 : BitVec 1 := Scalar.andi v103 v105
  let v92 : BitVec 32 := Scalar.divsi v91 c8_i32_22
  let c1_i32_28 : BitVec 32 := 1#32
  let v107 : BitVec 32 := Scalar.subi v92 c1_i32_28
  let v108 : BitVec 32 := Scalar.select v106 v107 v92
  let c8_i32_29 : BitVec 32 := 8#32
  let v109 : BitVec 32 := Scalar.muli v108 c8_i32_29
  v109
def k0_off2 (k0_t1 : Fin k0_t1_loop.trips) : Fin 2 → Nat :=
  let c0_38 : Index := 0#32
  let c0_i32_4 : BitVec 32 := 0#32
  let c1_i32_5 : BitVec 32 := 1#32
  let arg6 : BitVec 32 := Scf.iv c0_i32_4 c1_i32_5 k0_t1
  let c128_i32 : BitVec 32 := 128#32
  let v38 : BitVec 32 := Scalar.muli arg6 c128_i32
  let v39 : BitVec 32 := v38
  let v142 : Index := Scalar.indexCast v39
  ![0, v142.toNat]
def k0_off3 (k0_t1 : Fin k0_t1_loop.trips) : Fin 3 → Nat :=
  let c0_40 : Index := 0#32
  let c0_41 : Index := 0#32
  let c0_i32_4 : BitVec 32 := 0#32
  let c1_i32_5 : BitVec 32 := 1#32
  let arg6 : BitVec 32 := Scf.iv c0_i32_4 c1_i32_5 k0_t1
  let c128_i32 : BitVec 32 := 128#32
  let v38 : BitVec 32 := Scalar.muli arg6 c128_i32
  let v39 : BitVec 32 := v38
  let v163 : Index := Scalar.indexCast v39
  ![0, 0, v163.toNat]
def k0_off4 (k0_t1 : Fin k0_t1_loop.trips) : Fin 3 → Nat :=
  let c0_42 : Index := 0#32
  let c16 : Index := 16#32
  let c0_i32_4 : BitVec 32 := 0#32
  let c1_i32_5 : BitVec 32 := 1#32
  let arg6 : BitVec 32 := Scf.iv c0_i32_4 c1_i32_5 k0_t1
  let c128_i32 : BitVec 32 := 128#32
  let v38 : BitVec 32 := Scalar.muli arg6 c128_i32
  let v39 : BitVec 32 := v38
  let v180 : Index := Scalar.indexCast v39
  ![0, 16, v180.toNat]
def k0_off5 (k0_t1 : Fin k0_t1_loop.trips) : Fin 3 → Nat :=
  let c1 : Index := 1#32
  let c0_44 : Index := 0#32
  let c0_i32_4 : BitVec 32 := 0#32
  let c1_i32_5 : BitVec 32 := 1#32
  let arg6 : BitVec 32 := Scf.iv c0_i32_4 c1_i32_5 k0_t1
  let c128_i32 : BitVec 32 := 128#32
  let v38 : BitVec 32 := Scalar.muli arg6 c128_i32
  let v39 : BitVec 32 := v38
  let v202 : Index := Scalar.indexCast v39
  ![1, 0, v202.toNat]
def k0_off6 (k0_t1 : Fin k0_t1_loop.trips) : Fin 3 → Nat :=
  let c1_45 : Index := 1#32
  let c16_46 : Index := 16#32
  let c0_i32_4 : BitVec 32 := 0#32
  let c1_i32_5 : BitVec 32 := 1#32
  let arg6 : BitVec 32 := Scf.iv c0_i32_4 c1_i32_5 k0_t1
  let c128_i32 : BitVec 32 := 128#32
  let v38 : BitVec 32 := Scalar.muli arg6 c128_i32
  let v39 : BitVec 32 := v38
  let v219 : Index := Scalar.indexCast v39
  ![1, 16, v219.toNat]
def k0_off7 (k0_t1 : Fin k0_t1_loop.trips) : Fin 2 → Nat :=
  let c32 : Index := 32#32
  let c0_i32_4 : BitVec 32 := 0#32
  let c1_i32_5 : BitVec 32 := 1#32
  let arg6 : BitVec 32 := Scf.iv c0_i32_4 c1_i32_5 k0_t1
  let c128_i32 : BitVec 32 := 128#32
  let v38 : BitVec 32 := Scalar.muli arg6 c128_i32
  let v39 : BitVec 32 := v38
  let v223 : Index := Scalar.indexCast v39
  ![32, v223.toNat]
def k0_off8 (k0_t1 : Fin k0_t1_loop.trips) : Fin 3 → Nat :=
  let c0_49 : Index := 0#32
  let c32_50 : Index := 32#32
  let c0_i32_4 : BitVec 32 := 0#32
  let c1_i32_5 : BitVec 32 := 1#32
  let arg6 : BitVec 32 := Scf.iv c0_i32_4 c1_i32_5 k0_t1
  let c128_i32 : BitVec 32 := 128#32
  let v38 : BitVec 32 := Scalar.muli arg6 c128_i32
  let v39 : BitVec 32 := v38
  let v244 : Index := Scalar.indexCast v39
  ![0, 32, v244.toNat]
def k0_off9 (k0_t1 : Fin k0_t1_loop.trips) : Fin 3 → Nat :=
  let c0_51 : Index := 0#32
  let c48 : Index := 48#32
  let c0_i32_4 : BitVec 32 := 0#32
  let c1_i32_5 : BitVec 32 := 1#32
  let arg6 : BitVec 32 := Scf.iv c0_i32_4 c1_i32_5 k0_t1
  let c128_i32 : BitVec 32 := 128#32
  let v38 : BitVec 32 := Scalar.muli arg6 c128_i32
  let v39 : BitVec 32 := v38
  let v261 : Index := Scalar.indexCast v39
  ![0, 48, v261.toNat]
def k0_off10 (k0_t1 : Fin k0_t1_loop.trips) : Fin 3 → Nat :=
  let c1_54 : Index := 1#32
  let c32_55 : Index := 32#32
  let c0_i32_4 : BitVec 32 := 0#32
  let c1_i32_5 : BitVec 32 := 1#32
  let arg6 : BitVec 32 := Scf.iv c0_i32_4 c1_i32_5 k0_t1
  let c128_i32 : BitVec 32 := 128#32
  let v38 : BitVec 32 := Scalar.muli arg6 c128_i32
  let v39 : BitVec 32 := v38
  let v283 : Index := Scalar.indexCast v39
  ![1, 32, v283.toNat]
def k0_off11 (k0_t1 : Fin k0_t1_loop.trips) : Fin 3 → Nat :=
  let c1_56 : Index := 1#32
  let c48_57 : Index := 48#32
  let c0_i32_4 : BitVec 32 := 0#32
  let c1_i32_5 : BitVec 32 := 1#32
  let arg6 : BitVec 32 := Scf.iv c0_i32_4 c1_i32_5 k0_t1
  let c128_i32 : BitVec 32 := 128#32
  let v38 : BitVec 32 := Scalar.muli arg6 c128_i32
  let v39 : BitVec 32 := v38
  let v300 : Index := Scalar.indexCast v39
  ![1, 48, v300.toNat]
def k0_off12 (k0_t1 : Fin k0_t1_loop.trips) : Fin 2 → Nat :=
  let c64 : Index := 64#32
  let c0_i32_4 : BitVec 32 := 0#32
  let c1_i32_5 : BitVec 32 := 1#32
  let arg6 : BitVec 32 := Scf.iv c0_i32_4 c1_i32_5 k0_t1
  let c128_i32 : BitVec 32 := 128#32
  let v38 : BitVec 32 := Scalar.muli arg6 c128_i32
  let v39 : BitVec 32 := v38
  let v304 : Index := Scalar.indexCast v39
  ![64, v304.toNat]
def k0_off13 (k0_t1 : Fin k0_t1_loop.trips) : Fin 3 → Nat :=
  let c0_60 : Index := 0#32
  let c64_61 : Index := 64#32
  let c0_i32_4 : BitVec 32 := 0#32
  let c1_i32_5 : BitVec 32 := 1#32
  let arg6 : BitVec 32 := Scf.iv c0_i32_4 c1_i32_5 k0_t1
  let c128_i32 : BitVec 32 := 128#32
  let v38 : BitVec 32 := Scalar.muli arg6 c128_i32
  let v39 : BitVec 32 := v38
  let v325 : Index := Scalar.indexCast v39
  ![0, 64, v325.toNat]
def k0_off14 (k0_t1 : Fin k0_t1_loop.trips) : Fin 3 → Nat :=
  let c0_62 : Index := 0#32
  let c80 : Index := 80#32
  let c0_i32_4 : BitVec 32 := 0#32
  let c1_i32_5 : BitVec 32 := 1#32
  let arg6 : BitVec 32 := Scf.iv c0_i32_4 c1_i32_5 k0_t1
  let c128_i32 : BitVec 32 := 128#32
  let v38 : BitVec 32 := Scalar.muli arg6 c128_i32
  let v39 : BitVec 32 := v38
  let v342 : Index := Scalar.indexCast v39
  ![0, 80, v342.toNat]
def k0_off15 (k0_t1 : Fin k0_t1_loop.trips) : Fin 3 → Nat :=
  let c1_65 : Index := 1#32
  let c64_66 : Index := 64#32
  let c0_i32_4 : BitVec 32 := 0#32
  let c1_i32_5 : BitVec 32 := 1#32
  let arg6 : BitVec 32 := Scf.iv c0_i32_4 c1_i32_5 k0_t1
  let c128_i32 : BitVec 32 := 128#32
  let v38 : BitVec 32 := Scalar.muli arg6 c128_i32
  let v39 : BitVec 32 := v38
  let v364 : Index := Scalar.indexCast v39
  ![1, 64, v364.toNat]
def k0_off16 (k0_t1 : Fin k0_t1_loop.trips) : Fin 3 → Nat :=
  let c1_67 : Index := 1#32
  let c80_68 : Index := 80#32
  let c0_i32_4 : BitVec 32 := 0#32
  let c1_i32_5 : BitVec 32 := 1#32
  let arg6 : BitVec 32 := Scf.iv c0_i32_4 c1_i32_5 k0_t1
  let c128_i32 : BitVec 32 := 128#32
  let v38 : BitVec 32 := Scalar.muli arg6 c128_i32
  let v39 : BitVec 32 := v38
  let v381 : Index := Scalar.indexCast v39
  ![1, 80, v381.toNat]
def k0_off17 (k0_t1 : Fin k0_t1_loop.trips) : Fin 2 → Nat :=
  let c96 : Index := 96#32
  let c0_i32_4 : BitVec 32 := 0#32
  let c1_i32_5 : BitVec 32 := 1#32
  let arg6 : BitVec 32 := Scf.iv c0_i32_4 c1_i32_5 k0_t1
  let c128_i32 : BitVec 32 := 128#32
  let v38 : BitVec 32 := Scalar.muli arg6 c128_i32
  let v39 : BitVec 32 := v38
  let v385 : Index := Scalar.indexCast v39
  ![96, v385.toNat]
def k0_off18 (k0_t1 : Fin k0_t1_loop.trips) : Fin 3 → Nat :=
  let c0_71 : Index := 0#32
  let c96_72 : Index := 96#32
  let c0_i32_4 : BitVec 32 := 0#32
  let c1_i32_5 : BitVec 32 := 1#32
  let arg6 : BitVec 32 := Scf.iv c0_i32_4 c1_i32_5 k0_t1
  let c128_i32 : BitVec 32 := 128#32
  let v38 : BitVec 32 := Scalar.muli arg6 c128_i32
  let v39 : BitVec 32 := v38
  let v406 : Index := Scalar.indexCast v39
  ![0, 96, v406.toNat]
def k0_off19 (k0_t1 : Fin k0_t1_loop.trips) : Fin 3 → Nat :=
  let c0_73 : Index := 0#32
  let c112 : Index := 112#32
  let c0_i32_4 : BitVec 32 := 0#32
  let c1_i32_5 : BitVec 32 := 1#32
  let arg6 : BitVec 32 := Scf.iv c0_i32_4 c1_i32_5 k0_t1
  let c128_i32 : BitVec 32 := 128#32
  let v38 : BitVec 32 := Scalar.muli arg6 c128_i32
  let v39 : BitVec 32 := v38
  let v423 : Index := Scalar.indexCast v39
  ![0, 112, v423.toNat]
def k0_off20 (k0_t1 : Fin k0_t1_loop.trips) : Fin 3 → Nat :=
  let c1_76 : Index := 1#32
  let c96_77 : Index := 96#32
  let c0_i32_4 : BitVec 32 := 0#32
  let c1_i32_5 : BitVec 32 := 1#32
  let arg6 : BitVec 32 := Scf.iv c0_i32_4 c1_i32_5 k0_t1
  let c128_i32 : BitVec 32 := 128#32
  let v38 : BitVec 32 := Scalar.muli arg6 c128_i32
  let v39 : BitVec 32 := v38
  let v445 : Index := Scalar.indexCast v39
  ![1, 96, v445.toNat]
def k0_off21 (k0_t1 : Fin k0_t1_loop.trips) : Fin 3 → Nat :=
  let c1_78 : Index := 1#32
  let c112_79 : Index := 112#32
  let c0_i32_4 : BitVec 32 := 0#32
  let c1_i32_5 : BitVec 32 := 1#32
  let arg6 : BitVec 32 := Scf.iv c0_i32_4 c1_i32_5 k0_t1
  let c128_i32 : BitVec 32 := 128#32
  let v38 : BitVec 32 := Scalar.muli arg6 c128_i32
  let v39 : BitVec 32 := v38
  let v462 : Index := Scalar.indexCast v39
  ![1, 112, v462.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S128x7168 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S56x7168 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S16 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2x128x7168 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference.lean ====
abbrev S3584x28672 : Shape := ⟨2, ![3584, 28672]⟩
abbrev S56x28672 : Shape := ⟨2, ![56, 28672]⟩
abbrev S16 : Shape := ⟨1, ![16]⟩
abbrev S2 : Shape := ⟨1, ![2]⟩
abbrev S2x1x1 : Shape := ⟨3, ![2, 1, 1]⟩
abbrev S1x3584x28672 : Shape := ⟨3, ![1, 3584, 28672]⟩
abbrev S2x3584x28672 : Shape := ⟨3, ![2, 3584, 28672]⟩
abbrev S_ : Shape := ⟨0, ![]⟩
abbrev S1 : Shape := ⟨1, ![1]⟩
abbrev S2x28x1x28672 : Shape := ⟨4, ![2, 28, 1, 28672]⟩
abbrev S2x28x128x28672 : Shape := ⟨4, ![2, 28, 128, 28672]⟩
abbrev S7168x28672 : Shape := ⟨2, ![7168, 28672]⟩

abbrev nBuf : Space → Nat
  | .hbm => 117
  | .vmem => 0
  | .smem => 0
  | _ => 0

abbrev bufTy : (tb : Table) → Fin (tcTables nBuf tb) → BufTy
  | .hbm, ⟨0, _⟩ => ⟨S3584x28672, .i8⟩
  | .hbm, ⟨1, _⟩ => ⟨S56x28672, .bf16⟩
  | .hbm, ⟨2, _⟩ => ⟨S16, .bf16⟩
  | .hbm, ⟨3, _⟩ => ⟨S2, .i32⟩
  | .hbm, ⟨4, _⟩ => ⟨S3584x28672, .i32⟩
  | .hbm, ⟨5, _⟩ => ⟨S2x1x1, .i32⟩
  | .hbm, ⟨6, _⟩ => ⟨S1x3584x28672, .i32⟩
  | .hbm, ⟨7, _⟩ => ⟨S2x3584x28672, .i32⟩
  | .hbm, ⟨8, _⟩ => ⟨S2x3584x28672, .i32⟩
  | .hbm, ⟨9, _⟩ => ⟨S2x3584x28672, .i32⟩
  | .hbm, ⟨10, _⟩ => ⟨S_, .i32⟩
  | .hbm, ⟨11, _⟩ => ⟨S2x3584x28672, .i32⟩
  | .hbm, ⟨12, _⟩ => ⟨S2x3584x28672, .i32⟩
  | .hbm, ⟨13, _⟩ => ⟨S_, .i32⟩
  | .hbm, ⟨14, _⟩ => ⟨S2x3584x28672, .i32⟩
  | .hbm, ⟨15, _⟩ => ⟨S2x3584x28672, .i32⟩
  | .hbm, ⟨16, _⟩ => ⟨S_, .i32⟩
  | .hbm, ⟨17, _⟩ => ⟨S2x3584x28672, .i32⟩
  | .hbm, ⟨18, _⟩ => ⟨S2x3584x28672, .i32⟩
  | .hbm, ⟨19, _⟩ => ⟨S_, .i32⟩
  | .hbm, ⟨20, _⟩ => ⟨S2x3584x28672, .i32⟩
  | .hbm, ⟨21, _⟩ => ⟨S2x3584x28672, .i1⟩
  | .hbm, ⟨22, _⟩ => ⟨S_, .i32⟩
  | .hbm, ⟨23, _⟩ => ⟨S2x3584x28672, .i32⟩
  | .hbm, ⟨24, _⟩ => ⟨S2x3584x28672, .i32⟩
  | .hbm, ⟨25, _⟩ => ⟨S_, .i32⟩
  | .hbm, ⟨26, _⟩ => ⟨S2x3584x28672, .i32⟩
  | .hbm, ⟨27, _⟩ => ⟨S2x3584x28672, .i32⟩
  | .hbm, ⟨28, _⟩ => ⟨S_, .i32⟩
  | .hbm, ⟨29, _⟩ => ⟨S2x3584x28672, .i32⟩
  | .hbm, ⟨30, _⟩ => ⟨S2x3584x28672, .i1⟩
  | .hbm, ⟨31, _⟩ => ⟨S_, .i32⟩
  | .hbm, ⟨32, _⟩ => ⟨S2x3584x28672, .i32⟩
  | .hbm, ⟨33, _⟩ => ⟨S2x3584x28672, .i32⟩
  | .hbm, ⟨34, _⟩ => ⟨S_, .i32⟩
  | .hbm, ⟨35, _⟩ => ⟨S2x3584x28672, .i32⟩
  | .hbm, ⟨36, _⟩ => ⟨S2x3584x28672, .i32⟩
  | .hbm, ⟨37, _⟩ => ⟨S_, .i32⟩
  | .hbm, ⟨38, _⟩ => ⟨S2x3584x28672, .i32⟩
  | .hbm, ⟨39, _⟩ => ⟨S2x3584x28672, .i1⟩
  | .hbm, ⟨40, _⟩ => ⟨S_, .i32⟩
  | .hbm, ⟨41, _⟩ => ⟨S2x3584x28672, .i32⟩
  | .hbm, ⟨42, _⟩ => ⟨S2x3584x28672, .i32⟩
  | .hbm, ⟨43, _⟩ => ⟨S_, .i32⟩
  | .hbm, ⟨44, _⟩ => ⟨S2x3584x28672, .i32⟩
  | .hbm, ⟨45, _⟩ => ⟨S2x3584x28672, .i32⟩
  | .hbm, ⟨46, _⟩ => ⟨S_, .i32⟩
  | .hbm, ⟨47, _⟩ => ⟨S2x3584x28672, .i32⟩
  | .hbm, ⟨48, _⟩ => ⟨S2x3584x28672, .i1⟩
  | .hbm, ⟨49, _⟩ => ⟨S1, .bf16⟩
  | .hbm, ⟨50, _⟩ => ⟨S_, .bf16⟩
  | .hbm, ⟨51, _⟩ => ⟨S1, .bf16⟩
  | .hbm, ⟨52, _⟩ => ⟨S_, .bf16⟩
  | .hbm, ⟨53, _⟩ => ⟨S2x3584x28672, .bf16⟩
  | .hbm, ⟨54, _⟩ => ⟨S2x3584x28672, .bf16⟩
  | .hbm, ⟨55, _⟩ => ⟨S2x3584x28672, .bf16⟩
  | .hbm, ⟨56, _⟩ => ⟨S1, .bf16⟩
  | .hbm, ⟨57, _⟩ => ⟨S_, .bf16⟩
  | .hbm, ⟨58, _⟩ => ⟨S1, .bf16⟩
  | .hbm, ⟨59, _⟩ => ⟨S_, .bf16⟩
  | .hbm, ⟨60, _⟩ => ⟨S2x3584x28672, .bf16⟩
  | .hbm, ⟨61, _⟩ => ⟨S2x3584x28672, .bf16⟩
  | .hbm, ⟨62, _⟩ => ⟨S2x3584x28672, .bf16⟩
  | .hbm, ⟨63, _⟩ => ⟨S2x3584x28672, .bf16⟩
  | .hbm, ⟨64, _⟩ => ⟨S1, .bf16⟩
  | .hbm, ⟨65, _⟩ => ⟨S_, .bf16⟩
  | .hbm, ⟨66, _⟩ => ⟨S1, .bf16⟩
  | .hbm, ⟨67, _⟩ => ⟨S_, .bf16⟩
  | .hbm, ⟨68, _⟩ => ⟨S2x3584x28672, .bf16⟩
  | .hbm, ⟨69, _⟩ => ⟨S2x3584x28672, .bf16⟩
  | .hbm, ⟨70, _⟩ => ⟨S2x3584x28672, .bf16⟩
  | .hbm, ⟨71, _⟩ => ⟨S1, .bf16⟩
  | .hbm, ⟨72, _⟩ => ⟨S_, .bf16⟩
  | .hbm, ⟨73, _⟩ => ⟨S1, .bf16⟩
  | .hbm, ⟨74, _⟩ => ⟨S_, .bf16⟩
  | .hbm, ⟨75, _⟩ => ⟨S2x3584x28672, .bf16⟩
  | .hbm, ⟨76, _⟩ => ⟨S2x3584x28672, .bf16⟩
  | .hbm, ⟨77, _⟩ => ⟨S2x3584x28672, .bf16⟩
  | .hbm, ⟨78, _⟩ => ⟨S2x3584x28672, .bf16⟩
  | .hbm, ⟨79, _⟩ => ⟨S2x3584x28672, .bf16⟩
  | .hbm, ⟨80, _⟩ => ⟨S1, .bf16⟩
  | .hbm, ⟨81, _⟩ => ⟨S_, .bf16⟩
  | .hbm, ⟨82, _⟩ => ⟨S1, .bf16⟩
  | .hbm, ⟨83, _⟩ => ⟨S_, .bf16⟩
  | .hbm, ⟨84, _⟩ => ⟨S2x3584x28672, .bf16⟩
  | .hbm, ⟨85, _⟩ => ⟨S2x3584x28672, .bf16⟩
  | .hbm, ⟨86, _⟩ => ⟨S2x3584x28672, .bf16⟩
  | .hbm, ⟨87, _⟩ => ⟨S1, .bf16⟩
  | .hbm, ⟨88, _⟩ => ⟨S_, .bf16⟩
  | .hbm, ⟨89, _⟩ => ⟨S1, .bf16⟩
  | .hbm, ⟨90, _⟩ => ⟨S_, .bf16⟩
  | .hbm, ⟨91, _⟩ => ⟨S2x3584x28672, .bf16⟩
  | .hbm, ⟨92, _⟩ => ⟨S2x3584x28672, .bf16⟩
  | .hbm, ⟨93, _⟩ => ⟨S2x3584x28672, .bf16⟩
  | .hbm, ⟨94, _⟩ => ⟨S2x3584x28672, .bf16⟩
  | .hbm, ⟨95, _⟩ => ⟨S1, .bf16⟩
  | .hbm, ⟨96, _⟩ => ⟨S_, .bf16⟩
  | .hbm, ⟨97, _⟩ => ⟨S1, .bf16⟩
  | .hbm, ⟨98, _⟩ => ⟨S_, .bf16⟩
  | .hbm, ⟨99, _⟩ => ⟨S2x3584x28672, .bf16⟩
  | .hbm, ⟨100, _⟩ => ⟨S2x3584x28672, .bf16⟩
  | .hbm, ⟨101, _⟩ => ⟨S2x3584x28672, .bf16⟩
  | .hbm, ⟨102, _⟩ => ⟨S1, .bf16⟩
  | .hbm, ⟨103, _⟩ => ⟨S_, .bf16⟩
  | .hbm, ⟨104, _⟩ => ⟨S1, .bf16⟩
  | .hbm, ⟨105, _⟩ => ⟨S_, .bf16⟩
  | .hbm, ⟨106, _⟩ => ⟨S2x3584x28672, .bf16⟩
  | .hbm, ⟨107, _⟩ => ⟨S2x3584x28672, .bf16⟩
  | .hbm, ⟨108, _⟩ => ⟨S2x3584x28672, .bf16⟩
  | .hbm, ⟨109, _⟩ => ⟨S2x3584x28672, .bf16⟩
  | .hbm, ⟨110, _⟩ => ⟨S2x3584x28672, .bf16⟩
  | .hbm, ⟨111, _⟩ => ⟨S2x3584x28672, .bf16⟩
  | .hbm, ⟨112, _⟩ => ⟨S2x28x1x28672, .bf16⟩
  | .hbm, ⟨113, _⟩ => ⟨S2x28x128x28672, .bf16⟩
  | .hbm, ⟨114, _⟩ => ⟨S2x28x128x28672, .bf16⟩
  | .hbm, ⟨115, _⟩ => ⟨S2x28x128x28672, .bf16⟩
  | .hbm, ⟨116, _⟩ => ⟨S7168x28672, .bf16⟩
  | _, _ => ⟨S3584x28672, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_c_3 : Ref sig .tc := ⟨.hbm, 19, rfl⟩
abbrev main_v12 : Ref sig .tc := ⟨.hbm, 20, rfl⟩
abbrev main_v13 : Ref sig .tc := ⟨.hbm, 21, rfl⟩
abbrev main_c_4 : Ref sig .tc := ⟨.hbm, 22, rfl⟩
abbrev main_v14 : Ref sig .tc := ⟨.hbm, 23, rfl⟩
abbrev main_v15 : Ref sig .tc := ⟨.hbm, 24, rfl⟩
abbrev main_c_5 : Ref sig .tc := ⟨.hbm, 25, rfl⟩
abbrev main_v16 : Ref sig .tc := ⟨.hbm, 26, rfl⟩
abbrev main_v17 : Ref sig .tc := ⟨.hbm, 27, rfl⟩
abbrev main_c_6 : Ref sig .tc := ⟨.hbm, 28, rfl⟩
abbrev main_v18 : Ref sig .tc := ⟨.hbm, 29, rfl⟩
abbrev main_v19 : Ref sig .tc := ⟨.hbm, 30, rfl⟩
abbrev main_c_7 : Ref sig .tc := ⟨.hbm, 31, rfl⟩
abbrev main_v20 : Ref sig .tc := ⟨.hbm, 32, rfl⟩
abbrev main_v21 : Ref sig .tc := ⟨.hbm, 33, rfl⟩
abbrev main_c_8 : Ref sig .tc := ⟨.hbm, 34, rfl⟩
abbrev main_v22 : Ref sig .tc := ⟨.hbm, 35, rfl⟩
abbrev main_v23 : Ref sig .tc := ⟨.hbm, 36, rfl⟩
abbrev main_c_9 : Ref sig .tc := ⟨.hbm, 37, rfl⟩
abbrev main_v24 : Ref sig .tc := ⟨.hbm, 38, rfl⟩
abbrev main_v25 : Ref sig .tc := ⟨.hbm, 39, rfl⟩
abbrev main_c_10 : Ref sig .tc := ⟨.hbm, 40, rfl⟩
abbrev main_v26 : Ref sig .tc := ⟨.hbm, 41, rfl⟩
abbrev main_v27 : Ref sig .tc := ⟨.hbm, 42, rfl⟩
abbrev main_c_11 : Ref sig .tc := ⟨.hbm, 43, rfl⟩
abbrev main_v28 : Ref sig .tc := ⟨.hbm, 44, rfl⟩
abbrev main_v29 : Ref sig .tc := ⟨.hbm, 45, rfl⟩
abbrev main_c_12 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_call0_v0 : Ref sig .tc := ⟨.hbm, 53, rfl⟩
abbrev main_call0_v1 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_call1_v0 : Ref sig .tc := ⟨.hbm, 60, rfl⟩
abbrev main_call1_v1 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call3_v0 : Ref sig .tc := ⟨.hbm, 68, rfl⟩
abbrev main_call3_v1 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_call4_v0 : Ref sig .tc := ⟨.hbm, 75, rfl⟩
abbrev main_call4_v1 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_call7_v0 : Ref sig .tc := ⟨.hbm, 84, rfl⟩
abbrev main_call7_v1 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_call8_v0 : Ref sig .tc := ⟨.hbm, 91, rfl⟩
abbrev main_call8_v1 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_call10_v0 : Ref sig .tc := ⟨.hbm, 99, rfl⟩
abbrev main_call10_v1 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_call11_v0 : Ref sig .tc := ⟨.hbm, 106, rfl⟩
abbrev main_call11_v1 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩

abbrev nD : Nat := 1
abbrev τ : Topo := Topo.v7x

variable {F : FTy → Type} [FloatOps F]
-- ==== Proof.Bytes.lean ====
/- WORDS, BYTES AND 16-BIT ROWS of the kernel's tiles. The kernel keeps a tile of 8 × 128 32-bit words and looks at it
   as 32 × 128 bytes or as 16 × 128 16-bit elements: four byte rows, or two 16-bit rows, of a lane make one word, the
   lower row the lower bits. These lemmas read each view at a row and a lane. -/
module

public import proofs.«01_k».proof.Kernel
public import Idealize.ShloMosaic.Lib.BitcastFour
public import Idealize.ShloMosaic.Lib.BitcastPair
public import Idealize.ShloMosaic.Lib.ValueIdxCore

@[expose] public section

namespace Cert.Nf4

open Idealize.ShloMosaic Cert.Kernel
open Idealize.ShloMosaic.ValueIdx (ix2)

variable {R r n v w : Nat}

/-- A rank-2 re-view read at a bit: bit `q` of row `a` is bit `e` of source row `p`, where `a * w + q = p * v + e`. -/
theorem bit_at (x : (⟨2, ![R, n]⟩ : Shape).Idx → BitVec v) (h : (⟨2, ![R, n]⟩ : Shape).Bitcasts v ⟨2, ![r, n]⟩ w)
    (a : Fin r) (l : Fin n) (q : Nat) (hq : q < w) (p : Fin R) (e : Nat) (he : e < v) (hp : a.val * w + q = p.val * v + e) :
    (bitcast ⟨2, ![r, n]⟩ w x h (ix2 a l)).getLsbD q = (x (ix2 p l)).getLsbD e := by
  have hv : 0 < v := by omega
  have h1 : (a.val * w + q) / v = p.val := by
    rw [hp, Nat.mul_comm, Nat.mul_add_div hv, Nat.div_eq_of_lt he, Nat.add_zero]
  have h2 : (a.val * w + q) % v = e := by
    rw [hp, Nat.mul_comm, Nat.mul_add_mod, Nat.mod_eq_of_lt he]
  refine (bitcast_getLsbD x h (ix2 a l) q hq hv).trans ?_
  refine congr (congrArg BitVec.getLsbD (congrArg x ?_)) h2
  funext c
  match c with
  | ⟨0, _⟩ => exact Fin.ext ((h.srcIdx_row _ _ _ ⟨0, Nat.zero_lt_two⟩ rfl).trans h1)
  | ⟨1, _⟩ => exact Fin.ext (h.srcIdx_other _ _ _ ⟨1, Nat.one_lt_two⟩ (by show ¬ 1 + 2 = 2; omega))

/-- Byte row `p` of a tile of words is byte `p % 4` of word row `p / 4`. -/
theorem byte_of_words (x : IVec S8x128 32) (h : S8x128.Bitcasts 32 S32x128 8) (p : Fin 32) (l : Fin 128) :
    bitcast S32x128 8 x h (ix2 p l) = (x (ix2 (⟨p.val / 4, by omega⟩ : Fin 8) l)).extractLsb' (8 * (p.val % 4)) 8 := by
  apply BitVec.eq_of_getLsbD_eq
  intro q hq
  rw [bit_at x h p l q hq (⟨p.val / 4, by omega⟩ : Fin 8) (8 * (p.val % 4) + q) (by omega) (by show p.val * 8 + q = p.val / 4 * 32 + _; omega)]
  simp [BitVec.getLsbD_extractLsb', hq]

/-- Byte `k` of word row `a` of a tile of bytes is byte row `4 a + k`. -/
theorem word_of_bytes (y : IVec S32x128 8) (h : S32x128.Bitcasts 8 S8x128 32) (a : Fin 8) (l : Fin 128) (k : Nat) (hk : k < 4)
    (p : Fin 32) (hp : p.val = 4 * a.val + k) :
    (bitcast S8x128 32 y h (ix2 a l)).extractLsb' (8 * k) 8 = y (ix2 p l) := by
  apply BitVec.eq_of_getLsbD_eq
  intro q hq
  rw [BitVec.getLsbD_extractLsb', bit_at y h a l (8 * k + q) (by omega) p q hq (by omega)]
  simp [hq]

/-- Bytes taken as words, changed word by word, and taken as bytes again, where the change acts on each byte alone: byte
    row `p` changes by `g (p % 4)`. -/
theorem bytes_map (f : BitVec 32 → BitVec 32) (g : Nat → BitVec 8 → BitVec 8)
    (hf : ∀ k < 4, ∀ x : BitVec 32, (f x).extractLsb' (8 * k) 8 = g k (x.extractLsb' (8 * k) 8))
    (y : IVec S32x128 8) (h : S32x128.Bitcasts 8 S8x128 32) (h' : S8x128.Bitcasts 32 S32x128 8) (p : Fin 32) (l : Fin 128) :
    bitcast S32x128 8 (fun j => f (bitcast S8x128 32 y h j)) h' (ix2 p l) = g (p.val % 4) (y (ix2 p l)) := by
  rw [byte_of_words, hf _ (Nat.mod_lt _ (by decide)), word_of_bytes y h _ l _ (Nat.mod_lt _ (by decide)) p (by show p.val = 4 * (p.val / 4) + _; omega)]

/-- Bytes taken as 16-bit rows through words: row `a` is byte row `2 a + 1` above byte row `2 a`. -/
theorem half_of_bytes (y : IVec S32x128 8) (h : S32x128.Bitcasts 8 S8x128 32) (h' : S8x128.Bitcasts 32 S16x128 16)
    (a : Fin 16) (l : Fin 128) :
    bitcast S16x128 16 (bitcast S8x128 32 y h) h' (ix2 a l)
      = y (ix2 (⟨2 * a.val + 1, by omega⟩ : Fin 32) l) ++ y (ix2 (⟨2 * a.val, by omega⟩ : Fin 32) l) := by
  apply BitVec.eq_of_getLsbD_eq
  intro q hq
  rw [bit_at (bitcast S8x128 32 y h) h' a l q hq (⟨a.val / 2, by omega⟩ : Fin 8) (16 * (a.val % 2) + q) (by omega)
    (by show a.val * 16 + q = a.val / 2 * 32 + _; omega), BitVec.getLsbD_append]
  by_cases hlo : q < 8
  · rw [if_pos hlo]
    exact bit_at y h _ l _ (by omega) (⟨2 * a.val, by omega⟩ : Fin 32) q (by omega) (by show a.val / 2 * 32 + _ = 2 * a.val * 8 + q; omega)
  · rw [if_neg hlo]
    exact bit_at y h _ l _ (by omega) (⟨2 * a.val + 1, by omega⟩ : Fin 32) (q - 8) (by omega)
      (by show a.val / 2 * 32 + _ = (2 * a.val + 1) * 8 + (q - 8); omega)

/-- 16-bit rows taken as bytes through words: byte row `p` is byte `p % 2` of row `p / 2`. -/
theorem byte_of_halves (z : IVec S16x128 16) (h : S16x128.Bitcasts 16 S8x128 32) (h' : S8x128.Bitcasts 32 S32x128 8)
    (p : Fin 32) (l : Fin 128) :
    bitcast S32x128 8 (bitcast S8x128 32 z h) h' (ix2 p l)
      = (z (ix2 (⟨p.val / 2, by omega⟩ : Fin 16) l)).extractLsb' (8 * (p.val % 2)) 8 := by
  apply BitVec.eq_of_getLsbD_eq
  intro q hq
  rw [bit_at (bitcast S8x128 32 z h) h' p l q hq (⟨p.val / 4, by omega⟩ : Fin 8) (8 * (p.val % 4) + q) (by omega)
    (by show p.val * 8 + q = p.val / 4 * 32 + _; omega),
    bit_at z h _ l _ (by omega) (⟨p.val / 2, by omega⟩ : Fin 16) (8 * (p.val % 2) + q) (by omega)
    (by show p.val / 4 * 32 + _ = p.val / 2 * 16 + _; omega)]
  simp [BitVec.getLsbD_extractLsb', hq]

/-- The two bytes of a 16-bit element joined are the element. -/
theorem join_bytes (x : BitVec 16) : x.extractLsb' 8 8 ++ x.extractLsb' 0 8 = x := by
  apply BitVec.eq_of_getLsbD_eq
  intro q hq
  rw [BitVec.getLsbD_append]
  by_cases hlo : q < 8
  · simp [hlo]
  · have e : 8 + (q - 8) = q := by omega
    have : q - 8 < 8 := by omega
    simp [hlo, e, this]

end Cert.Nf4
-- ==== Proof.Payload.lean ====
/- WHAT ONE STORED TILE HOLDS. For a tile of packed bytes the kernel makes, for each byte row, twice the 4-bit code (an
   even number below 32), picks the code rows of one 16-row half doubled (row `p` is code row `p / 2 + 16 h`), adds the
   parity of `p`, and gathers bytes of a table laid out as byte rows by these numbers. The two gathered bytes of a row
   are the two bytes of one 16-bit table entry: the tile is the table looked up at the codes. -/
module

public import proofs.«01_k».proof.Proof.Bytes
public import proofs.«01_k».proof.Proof.Gen.Kernel.Skeleton
public import Idealize.ShloMosaic.PureOps.BitExact
public import Idealize.ShloMosaic.Lib.Pipeline.Value

@[expose] public section

noncomputable section

namespace Cert.Nf4

open Idealize.ShloMosaic Idealize.SL.Sem Cert.Kernel Cert.Kernel.Gen
open Idealize.ShloMosaic.ValueIdx (ix2 ix3)

variable {F : FTy → Type} [BitOps F]

/-! ## The gathers -/

/-- A gather of byte rows at a row and a lane. -/
theorem gather_rows (x : IVec S32x128 8) (idx : IVec S32x128 32) (p : Fin 32) (l : Fin 128) (q : Fin 32)
    (hq : (idx (ix2 p l)).toNat = q.val) : dynamicGather 0 x idx (ix2 p l) = x (ix2 q l) := by
  unfold dynamicGather
  refine congrArg x (funext fun b => ?_)
  match b with
  | ⟨0, _⟩ => exact Fin.ext (by show (idx (ix2 p l)).toNat % 32 = q.val; rw [hq]; exact Nat.mod_eq_of_lt q.isLt)
  | ⟨1, _⟩ => rfl

/-- Bytes as gather indices: widened with zeros. -/
def widen (d : IVec S32x128 8) : IVec S32x128 32 :=
  shapeCast S32x128 (shapeCast S32x128x1 (extui 32 d natLt_8_32) shapeCasts_S32x128_S32x128x1) shapeCasts_S32x128x1_S32x128

theorem widen_toNat (d : IVec S32x128 8) (j : S32x128.Idx) : (widen d j).toNat = (d j).toNat := by
  unfold widen
  rw [shapeCast_shapeCast]
  show ((d j).setWidth 32).toNat = _
  rw [BitVec.toNat_setWidth]
  exact Nat.mod_eq_of_lt (Nat.lt_trans (d j).isLt (by decide))

/-! ## The constant words -/

/-- The parity bytes: byte row `p` of the word `0x01000100` in every place is `p % 2`. -/
theorem parity_byte : ∀ k < 4, (16777472#32 : BitVec 32).extractLsb' (8 * k) 8 = BitVec.ofNat 8 (k % 2) := by decide

/-- The doubled row numbers of half `h`: byte row `p` is `p / 2 + 16 h`. -/
def dup : Fin 2 → IVec S32x128 8
  | 0 => k0_pay2
  | 1 => k0_pay3

theorem dup_apply (h : Fin 2) (p : Fin 32) (l : Fin 128) : dup h (ix2 p l) = BitVec.ofNat 8 (p.val / 2 + 16 * h.val) := by
  have key0 : ∀ (p : Fin 32), ((BitVec.ofNat 32 (p.val / 4) * 2#32 + 0#32) * 257#32
        + (BitVec.ofNat 32 (p.val / 4) * 2#32 + 0#32 + 1#32) * 16842752#32).extractLsb' (8 * (p.val % 4)) 8
      = BitVec.ofNat 8 (p.val / 2 + 16 * (0 : Fin 2).val) := by decide +kernel
  have key1 : ∀ (p : Fin 32), ((BitVec.ofNat 32 (p.val / 4) * 2#32 + 16#32) * 257#32
        + (BitVec.ofNat 32 (p.val / 4) * 2#32 + 16#32 + 1#32) * 16842752#32).extractLsb' (8 * (p.val % 4)) 8
      = BitVec.ofNat 8 (p.val / 2 + 16 * (1 : Fin 2).val) := by decide +kernel
  have hi (a : Fin 8) : iota .tc S8x128 32 [0] iota_S8x128_d0_w32 (ix2 a l) = BitVec.ofNat 32 a.val :=
    iota_single_apply .tc S8x128 32 0 _ (ix2 a l)
  match h with
  | 0 =>
    rw [← key0]
    unfold dup k0_pay2
    dsimp only
    rw [byte_of_words]
    simp only [addi, muli, broadcast, IntOp.addi, IntOp.muli, hi]
  | 1 =>
    rw [← key1]
    unfold dup k0_pay3
    dsimp only
    rw [byte_of_words]
    simp only [addi, muli, broadcast, IntOp.addi, IntOp.muli, hi]

/-! ## The codes -/

/-- The 4-bit code of a packed byte: half 0 the low four bits, half 1 the high four. -/
def nib (f : Fin 2) (b : BitVec 8) : Fin 16 := ⟨b.toNat / 16 ^ f.val % 16, Nat.mod_lt _ (by decide)⟩

/-- Twice the code of each packed byte, as the kernel makes it on whole words. -/
def code2 : Fin 2 → IVec S32x128 8 → IVec S32x128 8
  | 0, w => k0_pay12 (F := F) w
  | 1, w => k0_pay16 (k0_pay11 (F := F) w)

/-- A word shifted left by one and masked, byte by byte. -/
theorem low_byte (k : Nat) (hk : k < 4) (x : BitVec 32) :
    (x <<< 1 &&& 505290270#32).extractLsb' (8 * k) 8 = (x.extractLsb' (8 * k) 8) <<< 1 &&& 30#8 := by
  have hm : ∀ k < 4, (505290270#32 : BitVec 32).extractLsb' (8 * k) 8 = 30#8 := by decide
  apply BitVec.eq_of_getLsbD_eq
  intro i hi
  have hmi : (505290270#32 : BitVec 32).getLsbD (8 * k + i) = (30#8 : BitVec 8).getLsbD i := by
    rw [← hm k hk, BitVec.getLsbD_extractLsb']; simp [hi]
  simp only [BitVec.getLsbD_extractLsb', BitVec.getLsbD_and, BitVec.getLsbD_shiftLeft, hmi, hi, decide_true, Bool.true_and]
  by_cases h0 : i = 0
  · subst h0; simp
  · have e : 8 * k + i - 1 = 8 * k + (i - 1) := by omega
    simp [h0, e, show 8 * k + i < 32 by omega, show i - 1 < 8 by omega]

/-- A word shifted right by three and masked, byte by byte. -/
theorem high_byte (k : Nat) (hk : k < 4) (x : BitVec 32) :
    (x.sshiftRight 3 &&& 505290270#32).extractLsb' (8 * k) 8 = (x.extractLsb' (8 * k) 8) >>> 3 &&& 30#8 := by
  have hm : ∀ k < 4, (505290270#32 : BitVec 32).extractLsb' (8 * k) 8 = 30#8 := by decide
  have hz : ∀ i < 8, 5 ≤ i → (30#8 : BitVec 8).getLsbD i = false := by decide
  apply BitVec.eq_of_getLsbD_eq
  intro i hi
  have hmi : (505290270#32 : BitVec 32).getLsbD (8 * k + i) = (30#8 : BitVec 8).getLsbD i := by
    rw [← hm k hk, BitVec.getLsbD_extractLsb']; simp [hi]
  simp only [BitVec.getLsbD_extractLsb', BitVec.getLsbD_and, BitVec.getLsbD_ushiftRight, BitVec.getLsbD_sshiftRight, hmi, hi,
    decide_true, Bool.true_and]
  by_cases h5 : 5 ≤ i
  · simp [hz i hi h5]
  · have e : 3 + (8 * k + i) = 8 * k + (3 + i) := by omega
    simp [e, show ¬ 32 ≤ 8 * k + i by omega, show 8 * k + (3 + i) < 32 by omega, show 3 + i < 8 by omega]

theorem code2_apply (f : Fin 2) (w : IVec S32x128 8) (p : Fin 32) (l : Fin 128) :
    code2 (F := F) f w (ix2 p l) = BitVec.ofNat 8 (2 * (nib f (w (ix2 p l))).val) := by
  have k0 : ∀ b : BitVec 8, b <<< 1 &&& 30#8 = BitVec.ofNat 8 (2 * (nib 0 b).val) := by decide +kernel
  have k1 : ∀ b : BitVec 8, b >>> 3 &&& 30#8 = BitVec.ofNat 8 (2 * (nib 1 b).val) := by decide +kernel
  match f with
  | 0 =>
    rw [← k0, ← bytes_map (fun x => x <<< 1 &&& 505290270#32) (fun _ b => b <<< 1 &&& 30#8) low_byte w
      bitcasts_S32x128_w8_S8x128_w32 bitcasts_S8x128_w32_S32x128_w8 p l]
    unfold code2 k0_pay12 k0_pay11
    dsimp only
    refine congrFun (congrArg (fun z => bitcast S32x128 8 z bitcasts_S8x128_w32_S32x128_w8) (funext fun j => ?_)) _
    simp [andi, shli, broadcast, IntOp.andi, IntOp.shli]
  | 1 =>
    rw [← k1, ← bytes_map (fun x => x.sshiftRight 3 &&& 505290270#32) (fun _ b => b >>> 3 &&& 30#8) high_byte w
      bitcasts_S32x128_w8_S8x128_w32 bitcasts_S8x128_w32_S32x128_w8 p l]
    unfold code2 k0_pay16 k0_pay11
    dsimp only
    refine congrFun (congrArg (fun z => bitcast S32x128 8 z bitcasts_S8x128_w32_S32x128_w8) (funext fun j => ?_)) _
    simp [andi, shrsi, broadcast, IntOp.andi, IntOp.shrsi]

/-! ## The stored tile -/

/-- The tile the kernel stores from a table's byte rows, twice the codes, and doubled row numbers. -/
def stored (tab code d : IVec S32x128 8) : FVec F S1x16x128 .bf16 :=
  shapeCast S1x16x128 (bitcastToFloat .bf16 (bitcast S16x128 16 (bitcast S8x128 32 (dynamicGather 0 tab (widen (bitcast S32x128 8
    (ori (bitcast S8x128 32 (dynamicGather 0 code (widen d)) bitcasts_S32x128_w8_S8x128_w32) k0_pay1)
    bitcasts_S8x128_w32_S32x128_w8))) bitcasts_S32x128_w8_S8x128_w32) bitcasts_S8x128_w32_S16x128_w16))
    shapeCasts_S16x128_S1x16x128

/-- THE STORED TILE IS THE TABLE AT THE CODES: row `r` of the tile of half `h` is entry `n (r + 16 h)` of the lane's table. -/
theorem stored_apply (tab code d : IVec S32x128 8) (M : IVec S16x128 16) (n : Fin 32 → Fin 128 → Fin 16) (h : Fin 2)
    (htab : ∀ p l, tab (ix2 p l) = (M (ix2 (⟨p.val / 2, by omega⟩ : Fin 16) l)).extractLsb' (8 * (p.val % 2)) 8)
    (hcode : ∀ p l, code (ix2 p l) = BitVec.ofNat 8 (2 * (n p l).val))
    (hd : ∀ p l, d (ix2 p l) = BitVec.ofNat 8 (p.val / 2 + 16 * h.val))
    (r : Fin 16) (l : Fin 128) :
    stored (F := Bits) tab code d (ix3 0 r l) = M (ix2 (n ⟨r.val + 16 * h.val, by omega⟩ l) l) := by
  have hrow (p : Fin 32) (a : Fin 16) (ha : p.val / 2 = a.val) :
      dynamicGather 0 code (widen d) (ix2 p l) = BitVec.ofNat 8 (2 * (n ⟨a.val + 16 * h.val, by omega⟩ l).val) := by
    rw [gather_rows code (widen d) p l ⟨a.val + 16 * h.val, by omega⟩
      (by rw [widen_toNat, hd, ha, BitVec.toNat_ofNat]; exact Nat.mod_eq_of_lt (by omega)), hcode]
  have hor : ∀ (a : Fin 16) (k : Fin 2), (BitVec.ofNat 8 (2 * a.val) ||| BitVec.ofNat 8 k.val).toNat = 2 * a.val + k.val := by decide +kernel
  have hidx (p : Fin 32) (a : Fin 16) (ha : p.val / 2 = a.val) :
      (widen (bitcast S32x128 8 (ori (bitcast S8x128 32 (dynamicGather 0 code (widen d)) bitcasts_S32x128_w8_S8x128_w32) k0_pay1)
        bitcasts_S8x128_w32_S32x128_w8) (ix2 p l)).toNat = 2 * (n ⟨a.val + 16 * h.val, by omega⟩ l).val + p.val % 2 := by
    rw [widen_toNat]
    have hb := bytes_map (fun x => x ||| 16777472#32) (fun k b => b ||| BitVec.ofNat 8 (k % 2))
      (fun k hk x => by rw [BitVec.extractLsb'_or, parity_byte k hk])
      (dynamicGather 0 code (widen d)) bitcasts_S32x128_w8_S8x128_w32 bitcasts_S8x128_w32_S32x128_w8 p l
    refine (congrArg BitVec.toNat hb).trans ?_
    rw [hrow p a ha, show p.val % 4 % 2 = p.val % 2 by omega]
    exact hor _ ⟨p.val % 2, Nat.mod_lt _ (by decide)⟩
  have hg (p : Fin 32) (a : Fin 16) (ha : p.val / 2 = a.val) :
      dynamicGather 0 tab (widen (bitcast S32x128 8 (ori (bitcast S8x128 32 (dynamicGather 0 code (widen d)) bitcasts_S32x128_w8_S8x128_w32) k0_pay1)
        bitcasts_S8x128_w32_S32x128_w8)) (ix2 p l)
      = (M (ix2 (n ⟨a.val + 16 * h.val, by omega⟩ l) l)).extractLsb' (8 * (p.val % 2)) 8 := by
    rw [gather_rows _ _ p l ⟨2 * (n ⟨a.val + 16 * h.val, by omega⟩ l).val + p.val % 2, by omega⟩ (hidx p a ha), htab]
    have e1 : (2 * (n ⟨a.val + 16 * h.val, by omega⟩ l).val + p.val % 2) / 2 = (n ⟨a.val + 16 * h.val, by omega⟩ l).val := by omega
    have e2 : (2 * (n ⟨a.val + 16 * h.val, by omega⟩ l).val + p.val % 2) % 2 = p.val % 2 := by omega
    dsimp only
    rw [e2]
    exact congrArg (fun t : Fin 16 => (M (ix2 t l)).extractLsb' (8 * (p.val % 2)) 8) (Fin.ext e1)
  have hj : (fun a : Fin 2 => (ix3 (0 : Fin 1) r l) a.succ) = ix2 r l := by
    funext a
    match a with
    | ⟨0, _⟩ => rfl
    | ⟨1, _⟩ => rfl
  unfold stored
  refine (shapeCast_addUnit_apply ![16, 128] _ _ (ix3 (0 : Fin 1) r l)).trans ((congrArg _ hj).trans ?_)
  refine (half_of_bytes _ bitcasts_S32x128_w8_S8x128_w32 bitcasts_S8x128_w32_S16x128_w16 r l).trans ?_
  have h1 := hg ⟨2 * r.val + 1, by omega⟩ r (by show (2 * r.val + 1) / 2 = _; omega)
  have h0 := hg ⟨2 * r.val, by omega⟩ r (by show 2 * r.val / 2 = _; omega)
  dsimp only at h1 h0
  rw [show (2 * r.val + 1) % 2 = 1 by omega] at h1
  rw [show 2 * r.val % 2 = 0 by omega] at h0
  rw [h1, h0]
  exact join_bytes _

end Cert.Nf4

end
-- ==== Proof.Trip.lean ====
/- WHAT ONE TRIP OF THE KERNEL'S LOOP WRITES. A trip handles 128 lanes. It makes two tables, one for each half of the
   result's rows, and stores sixteen tiles of 16 × 128: for each of four tiles of 32 packed rows, for each half `f` (which
   four bits of a byte are the code) and each `h` (which sixteen of the tile's rows). -/
module

public import proofs.«01_k».proof.Proof.Payload
public import proofs.«01_k».proof.Proof.Gen.Kernel.Loops

@[expose] public section

set_option maxRecDepth 65536

noncomputable section

namespace Cert.Nf4

open Idealize.ShloMosaic Idealize.SL.Sem Cert.Kernel Cert.Kernel.Gen

variable {F : FTy → Type} [BitOps F]

/-- Twice the place, within its tile of eight rows, of scale row `g`. -/
def twicePlace (g : BitVec 32) : BitVec 32 :=
  let e := Scalar.select (Scalar.cmpi .eq 8#32 0#32) 1#32 8#32
  let q := Scalar.remsi g e
  Scalar.muli 2#32 (Scalar.select (Scalar.andi (Scalar.xori (Scalar.cmpi .slt q 0#32) (Scalar.cmpi .slt e 0#32)) (Scalar.cmpi .ne q 0#32))
    (Scalar.addi q e) q)

/-- The byte rows of one half's table: every table entry times the scale in row `g` of the lane. -/
def tabOf (t : FVec F S16x128 .bf16) (s8 : FVec F S8x128 .bf16) (g : BitVec 32) : IVec S32x128 8 :=
  k0_pay8 k0_pay1 t (k0_pay5 s8) (broadcast S8x128 (twicePlace g)) k0_pay7

variable (i : grid0.Coords) (arg2 : Memref sig .tc .vmem S128x7168 .i8) (arg3 : Memref sig .tc .vmem S56x7168 .bf16) (arg1 : BitVec 32)
  (v26 : Vec F S16 .bf16) (X2 : BufTy.Contents (Elt F) arg2.view.ty) (X3 : BufTy.Contents (Elt F) arg3.view.ty) (k : Fin k0_t1_loop.trips)

/-- The table of the rows' first half. -/
def tab0 : IVec S32x128 8 :=
  tabOf (k0_pay4 v26) (View.readAt (Elt F) arg3.view (Rect.unit (s := S56x7168) (k0_off1 i k 0#32) S8x128.size (k0_off1_inb i k 0)).toLoadRect X3)
    (Scalar.addi arg1 0#32)

/-- The table of the rows' second half. -/
def tab1 : IVec S32x128 8 :=
  tabOf (k0_pay4 v26) (View.readAt (Elt F) arg3.view (Rect.unit (s := S56x7168) (k0_off1 i k 28#32) S8x128.size (k0_off1_inb i k 1)).toLoadRect X3)
    (Scalar.addi arg1 28#32)

/-- The four tiles of 32 packed rows. -/
def w0 : Vec F S32x128 .i8 := View.readAt (Elt F) arg2.view (Rect.unit (s := S128x7168) (k0_off2 k) S32x128.size (k0_off2_inb k)).toLoadRect X2
@[inherit_doc w0]
def w1 : Vec F S32x128 .i8 := View.readAt (Elt F) arg2.view (Rect.unit (s := S128x7168) (k0_off7 k) S32x128.size (k0_off7_inb k)).toLoadRect X2
@[inherit_doc w0]
def w2 : Vec F S32x128 .i8 := View.readAt (Elt F) arg2.view (Rect.unit (s := S128x7168) (k0_off12 k) S32x128.size (k0_off12_inb k)).toLoadRect X2
@[inherit_doc w0]
def w3 : Vec F S32x128 .i8 := View.readAt (Elt F) arg2.view (Rect.unit (s := S128x7168) (k0_off17 k) S32x128.size (k0_off17_inb k)).toLoadRect X2

/-- A stored tile with its place. -/
abbrev at_ (off : Fin 3 → Nat) (inb : ∀ a, off a + S1x16x128.size a ≤ S2x128x7168.size a) (v : FVec F S1x16x128 .bf16) :
    View.Piece (Elt F) S2x128x7168 .bf16 := ⟨Rect.unit off S1x16x128.size inb, v⟩

/-- One trip's sixteen stores, last first. -/
theorem trip_eq (𝒱 : Variants) (c : Dev nD) (bd : Option 𝒱.V) (harg2 : arg2.IsWhole) (harg3 : arg3.IsWhole)
    (arg4 : Memref sig .tc .vmem S16 .bf16) (harg4 : arg4.IsWhole) (arg5 : Memref sig .tc .vmem S2x128x7168 .bf16) (harg5 : arg5.IsWhole) :
    tripL_k0_t1 𝒱 c bd i arg2 harg2 arg3 harg3 arg4 harg4 arg5 harg5 arg1 v26 X2 X3 k =
      [ at_ (k0_off21 k) (k0_off21_inb k) (stored (tab1 i arg3 arg1 v26 X3 k) (code2 (F := F) 1 (w3 arg2 X2 k)) (dup 1)),
        at_ (k0_off20 k) (k0_off20_inb k) (stored (tab1 i arg3 arg1 v26 X3 k) (code2 (F := F) 1 (w3 arg2 X2 k)) (dup 0)),
        at_ (k0_off19 k) (k0_off19_inb k) (stored (tab0 i arg3 arg1 v26 X3 k) (code2 (F := F) 0 (w3 arg2 X2 k)) (dup 1)),
        at_ (k0_off18 k) (k0_off18_inb k) (stored (tab0 i arg3 arg1 v26 X3 k) (code2 (F := F) 0 (w3 arg2 X2 k)) (dup 0)),
        at_ (k0_off16 k) (k0_off16_inb k) (stored (tab1 i arg3 arg1 v26 X3 k) (code2 (F := F) 1 (w2 arg2 X2 k)) (dup 1)),
        at_ (k0_off15 k) (k0_off15_inb k) (stored (tab1 i arg3 arg1 v26 X3 k) (code2 (F := F) 1 (w2 arg2 X2 k)) (dup 0)),
        at_ (k0_off14 k) (k0_off14_inb k) (stored (tab0 i arg3 arg1 v26 X3 k) (code2 (F := F) 0 (w2 arg2 X2 k)) (dup 1)),
        at_ (k0_off13 k) (k0_off13_inb k) (stored (tab0 i arg3 arg1 v26 X3 k) (code2 (F := F) 0 (w2 arg2 X2 k)) (dup 0)),
        at_ (k0_off11 k) (k0_off11_inb k) (stored (tab1 i arg3 arg1 v26 X3 k) (code2 (F := F) 1 (w1 arg2 X2 k)) (dup 1)),
        at_ (k0_off10 k) (k0_off10_inb k) (stored (tab1 i arg3 arg1 v26 X3 k) (code2 (F := F) 1 (w1 arg2 X2 k)) (dup 0)),
        at_ (k0_off9 k) (k0_off9_inb k) (stored (tab0 i arg3 arg1 v26 X3 k) (code2 (F := F) 0 (w1 arg2 X2 k)) (dup 1)),
        at_ (k0_off8 k) (k0_off8_inb k) (stored (tab0 i arg3 arg1 v26 X3 k) (code2 (F := F) 0 (w1 arg2 X2 k)) (dup 0)),
        at_ (k0_off6 k) (k0_off6_inb k) (stored (tab1 i arg3 arg1 v26 X3 k) (code2 (F := F) 1 (w0 arg2 X2 k)) (dup 1)),
        at_ (k0_off5 k) (k0_off5_inb k) (stored (tab1 i arg3 arg1 v26 X3 k) (code2 (F := F) 1 (w0 arg2 X2 k)) (dup 0)),
        at_ (k0_off4 k) (k0_off4_inb k) (stored (tab0 i arg3 arg1 v26 X3 k) (code2 (F := F) 0 (w0 arg2 X2 k)) (dup 1)),
        at_ (k0_off3 k) (k0_off3_inb k) (stored (tab0 i arg3 arg1 v26 X3 k) (code2 (F := F) 0 (w0 arg2 X2 k)) (dup 0)) ] := by
  unfold tripL_k0_t1 trip_k0_t1
  rfl

end Cert.Nf4

end
-- ==== Proof.Table.lean ====
/- THE TABLE OF ONE TRIP. For each half of the rows the kernel multiplies the sixteen table entries by the scale of the
   row group, lane by lane, and keeps the products as byte rows: byte row `p` is byte `p % 2` of entry `p / 2`. The scale
   row is one of a tile of eight, picked by gathering its two bytes. The table entries themselves go through a wider
   format and back before the product. -/
module

public import proofs.«01_k».proof.Proof.Trip

@[expose] public section

set_option maxRecDepth 16384

noncomputable section

namespace Cert.Nf4

open Idealize.ShloMosaic Idealize.SL.Sem Cert.Kernel Cert.Kernel.Gen
open Idealize.ShloMosaic.ValueIdx (ix1 ix2 ix3)

/-- A 16-bit number widened to 32 bits and rounded back. -/
def there (x : Bits .bf16) : Bits .bf16 := FloatOps.truncf .bf16 bitsLt_bf16_f32 (FloatOps.extf .f32 bitsLt_bf16_f32 x)

/-- A gather along the lanes at a row and a lane. -/
theorem gather_lanes {α : Type} (x : S16x128.Idx → α) (idx : IVec S16x128 32) (r : Fin 16) (l q : Fin 128)
    (hq : (idx (ix2 r l)).toNat = q.val) : dynamicGather 1 x idx (ix2 r l) = x (ix2 r q) := by
  unfold dynamicGather
  refine congrArg x (funext fun b => ?_)
  match b with
  | ⟨0, _⟩ => rfl
  | ⟨1, _⟩ => exact Fin.ext (by show (idx (ix2 r l)).toNat % 128 = q.val; rw [hq]; exact Nat.mod_eq_of_lt q.isLt)

/-- Sixteen values laid along the lanes eight times, in every row. -/
theorem lanes_apply {α : Type} (v : S16.Idx → α) (r : Fin 16) (q : Fin 16) :
    concatenate S16x128 1 (List.replicate 8 (⟨S16x16, broadcastTo S16x16 (shapeCast S1x16 v shapeCasts_S16_S1x16) broadcasts_S1x16_S16x16⟩
        : (s : Shape) × (s.Idx → α))) concatenates_S16x16_S16x16_S16x16_S16x16_S16x16_S16x16_S16x16_S16x16_S16x128_d1
      (ix2 r (⟨q.val, by omega⟩ : Fin 128)) = v (ix1 q) := by
  rw [concatenate_replicate_apply (t := S16x128) (s₁ := S16x16) 1 8 _ _ rfl (ix2 r (⟨q.val, by omega⟩ : Fin 128)) (ix2 r q)
    (by show q.val = q.val % 16; omega)
    (fun b hb => by
      match b with
      | ⟨0, _⟩ => rfl
      | ⟨1, _⟩ => exact absurd rfl hb)]
  rw [broadcastTo_apply _ _ _ (ix2 (0 : Fin 1) q) (fun b => by
      match b with
      | ⟨0, _⟩ => rfl
      | ⟨1, _⟩ => rfl)]
  refine (shapeCast_addUnit_apply ![16] v _ (ix2 (0 : Fin 1) q)).trans (congrArg v (funext fun b => ?_))
  match b with
  | ⟨0, _⟩ => rfl

/-- Entry `r` of the table the kernel multiplies, in every lane. -/
theorem entry_apply (v : Vec Bits S16 .bf16) (r : Fin 16) (l : Fin 128) :
    k0_pay4 (F := Bits) v (ix2 r l) = there (v (ix1 r)) := by
  have hi : iota .tc S16x128 32 [0] iota_S16x128_d0_w32 (ix2 r l) = BitVec.ofNat 32 r.val :=
    iota_single_apply .tc S16x128 32 0 _ (ix2 r l)
  unfold k0_pay4
  dsimp only
  rw [shapeCast_shapeCast, shapeCast_self]
  unfold truncf
  rw [gather_lanes _ _ r l ⟨r.val, by omega⟩ (by rw [hi, BitVec.toNat_ofNat]; exact Nat.mod_eq_of_lt (by omega))]
  exact congrArg (fun z => FloatOps.truncf (F := Bits) .bf16 bitsLt_bf16_f32 z) (lanes_apply (extf (F := Bits) .f32 (v : FVec Bits S16 .bf16) bitsLt_bf16_f32) r r)

/-- Twice the place of a scale row in its tile of eight. -/
theorem twicePlace_eq (f : Fin 2) (n : Fin 28) :
    twicePlace (Scalar.addi (BitVec.ofNat 32 n.val) (BitVec.ofNat 32 (28 * f.val))) = BitVec.ofNat 32 (2 * ((n.val + 28 * f.val) % 8)) := by
  revert f n; decide +kernel

/-- The picked row numbers: byte row `p` is `2 e + p % 2`. -/
theorem pick_byte (e : Fin 8) (k : Fin 4) :
    (BitVec.ofNat 32 (2 * e.val) * 16843009#32 + 16777472#32).extractLsb' (8 * k.val) 8 = BitVec.ofNat 8 (2 * e.val + k.val % 2) := by
  revert e k; decide +kernel

/-- The words whose bytes are the picked row numbers. -/
def pick (g : BitVec 32) : IVec S8x128 32 := addi (muli (broadcast S8x128 (twicePlace g)) k0_pay7) k0_pay1

/-- The picked scale row, in each of sixteen rows. -/
def scaleRows {F : FTy → Type} [BitOps F] (s8 : FVec F S8x128 .bf16) (g : BitVec 32) : FVec F S16x128 .bf16 :=
  bitcastToFloat .bf16 (bitcast S16x128 16 (bitcast S8x128 32 (dynamicGather 0 (k0_pay5 s8)
    (widen (bitcast S32x128 8 (pick g) bitcasts_S8x128_w32_S32x128_w8))) bitcasts_S32x128_w8_S8x128_w32) bitcasts_S8x128_w32_S16x128_w16)

theorem tabOf_eq {F : FTy → Type} [BitOps F] (t : FVec F S16x128 .bf16) (s8 : FVec F S8x128 .bf16) (g : BitVec 32) :
    tabOf t s8 g = bitcast S32x128 8 (bitcast S8x128 32 (bitcastToInt (mulf t (scaleRows s8 g))) bitcasts_S16x128_w16_S8x128_w32)
      bitcasts_S8x128_w32_S32x128_w8 := rfl

section
variable (s8 : FVec Bits S8x128 .bf16) (g : BitVec 32) (e : Fin 8) (hg : twicePlace g = BitVec.ofNat 32 (2 * e.val)) (l : Fin 128)
include hg

/-- The picked byte rows. -/
theorem pick_toNat (p : Fin 32) :
    (widen (bitcast S32x128 8 (pick g) bitcasts_S8x128_w32_S32x128_w8) (ix2 p l)).toNat = 2 * e.val + p.val % 2 := by
  have hw (j : S8x128.Idx) : pick g j = BitVec.ofNat 32 (2 * e.val) * 16843009#32 + 16777472#32 := by rw [← hg]; rfl
  rw [widen_toNat, byte_of_words, hw]
  have := pick_byte e ⟨p.val % 4, Nat.mod_lt _ (by decide)⟩
  rw [show p.val % 4 % 2 = p.val % 2 by omega] at this
  rw [this, BitVec.toNat_ofNat]
  exact Nat.mod_eq_of_lt (by omega)

omit hg in
/-- The eight scale rows as bytes. -/
theorem scale_bytes (p : Fin 32) (hp : p.val / 2 = e.val) :
    k0_pay5 (F := Bits) s8 (ix2 p l) = (s8 (ix2 e l)).extractLsb' (8 * (p.val % 2)) 8 := by
  unfold k0_pay5
  rw [byte_of_halves]
  refine congrArg (fun z : BitVec 16 => z.extractLsb' (8 * (p.val % 2)) 8) ?_
  exact concatenate_pair_apply_left 0 s8 s8 concatenates_S8x128_S8x128_S16x128_d0 (ix2 (⟨p.val / 2, by omega⟩ : Fin 16) l) rfl (ix2 e l) (fun b => by
    match b with
    | ⟨0, _⟩ => exact hp.symm
    | ⟨1, _⟩ => rfl)

theorem scale_gather (p : Fin 32) :
    dynamicGather 0 (k0_pay5 (F := Bits) s8) (widen (bitcast S32x128 8 (pick g) bitcasts_S8x128_w32_S32x128_w8)) (ix2 p l)
      = (s8 (ix2 e l)).extractLsb' (8 * (p.val % 2)) 8 := by
  rw [gather_rows _ _ p l ⟨2 * e.val + p.val % 2, by omega⟩ (pick_toNat g e hg l p),
    scale_bytes s8 e l _ (by show (2 * e.val + p.val % 2) / 2 = _; omega)]
  rw [show (2 * e.val + p.val % 2) % 2 = p.val % 2 by omega]

theorem scaleRows_apply (r : Fin 16) : scaleRows (F := Bits) s8 g (ix2 r l) = s8 (ix2 e l) := by
  refine (half_of_bytes _ bitcasts_S32x128_w8_S8x128_w32 bitcasts_S8x128_w32_S16x128_w16 r l).trans ?_
  have h1 := scale_gather s8 g e hg l ⟨2 * r.val + 1, by omega⟩
  have h0 := scale_gather s8 g e hg l ⟨2 * r.val, by omega⟩
  dsimp only at h1 h0
  rw [show (2 * r.val + 1) % 2 = 1 by omega] at h1
  rw [show 2 * r.val % 2 = 0 by omega] at h0
  rw [h1, h0]
  exact join_bytes _

end

/-- The sixteen products as byte rows. -/
theorem tabOf_apply (t : FVec Bits S16x128 .bf16) (s8 : FVec Bits S8x128 .bf16) (g : BitVec 32) (e : Fin 8)
    (hg : twicePlace g = BitVec.ofNat 32 (2 * e.val)) (p : Fin 32) (l : Fin 128) :
    tabOf (F := Bits) t s8 g (ix2 p l)
      = BitVec.extractLsb' (8 * (p.val % 2)) 8
          (FloatOps.mulf (F := Bits) (φ := .bf16) (t (ix2 (⟨p.val / 2, by omega⟩ : Fin 16) l)) (s8 (ix2 e l))) := by
  rw [tabOf_eq]
  refine (byte_of_halves _ bitcasts_S16x128_w16_S8x128_w32 bitcasts_S8x128_w32_S32x128_w8 p l).trans ?_
  rw [← scaleRows_apply s8 g e hg l ⟨p.val / 2, by omega⟩]
  rfl

end Cert.Nf4

end
-- ==== Proof.Block.lean ====
/- WHAT ONE GRID POINT LEAVES IN ITS OUTPUT BLOCK. At a grid point the block holds, in half `f`, row `ρ` and column `l`,
   the table entry at the code of packed byte `(ρ, l)` times the scale of row group `i₁ + 28 f` in column `l`. Every store
   of every trip writes a part of this one function, and together the stores cover the block. -/
module

public import proofs.«01_k».proof.Proof.Table
public import proofs.«01_k».proof.Proof.Gen.Kernel.Frame
public import Idealize.ShloMosaic.Lib.WholeRead
public import Idealize.ShloMosaic.Lib.Writes
public import Idealize.ShloMosaic.Lib.Pipeline.ValueKit.Geometry

@[expose] public section

set_option maxRecDepth 16384

noncomputable section

namespace Cert.Nf4

open Idealize.ShloMosaic Idealize.SL.Sem Cert.Kernel Cert.Kernel.Gen
open Idealize.ShloMosaic.ValueIdx (ix1 ix2 ix3)

/-- The scale row of half `f` at a grid point. -/
def scaleRow (i : grid0.Coords) (f : Fin 2) : Fin 56 := ⟨(i 1).val + 28 * f.val, by have : (i 1).val < 28 := (i 1).isLt; omega⟩

/-- The block a grid point leaves, from its packed bytes, its scales and the table. -/
def blockAt (i : grid0.Coords) (x0 : Vec Bits S128x7168 .i8) (x1 : Vec Bits S56x7168 .bf16) (x2 : Vec Bits S16 .bf16)
    (f : Fin 2) (r : Fin 128) (l : Fin 7168) : Bits .bf16 :=
  FloatOps.mulf (F := Bits) (φ := .bf16) (there (x2 (ix1 (nib f (x0 (ix2 r l)))))) (x1 (ix2 (scaleRow i f) l))

/-! ## Where a trip reads -/

theorem trip_lt (k : Fin k0_t1_loop.trips) : k.val < 56 := Nat.lt_of_lt_of_le k.isLt k0_t1_abs.2.1

/-- Lane `l` of trip `k` in the block. -/
def lane (k : Fin k0_t1_loop.trips) (l : Fin 128) : Fin 7168 := ⟨128 * k.val + l.val, by have := trip_lt k; omega⟩

/-- The row a scale tile starts at does not depend on the trip. -/
theorem scale_off_row (i : grid0.Coords) (k k' : Fin k0_t1_loop.trips) (g : BitVec 32) : k0_off1 i k g 0 = k0_off1 i k' g 0 := by
  unfold k0_off1; rfl

/-- The lanes of a scale tile are the trip's. -/
theorem scale_off_lane (i : grid0.Coords) (k : Fin k0_t1_loop.trips) (g : BitVec 32) : k0_off1 i k g 1 = k0_off2 k 1 := by
  unfold k0_off1 k0_off2; rfl

theorem scale_off (i : grid0.Coords) (k : Fin k0_t1_loop.trips) (f : Fin 2) :
    k0_off1 i k (BitVec.ofNat 32 (28 * f.val)) = ![8 * ((scaleRow i f).val / 8), 128 * k.val] := by
  have h0 : ∀ k : Fin k0_t1_loop.trips, k.val = 0 → ∀ (i : grid0.Coords) (f : Fin 2),
      k0_off1 i k (BitVec.ofNat 32 (28 * f.val)) 0 = 8 * ((scaleRow i f).val / 8) := by decide +kernel
  funext a
  match a with
  | ⟨0, _⟩ => exact (scale_off_row i k ⟨0, Nat.zero_lt_of_lt k.isLt⟩ _).trans (h0 _ rfl i f)
  | ⟨1, _⟩ => exact (scale_off_lane i k _).trans (congrFun (k0_off2_eq k) 1)

section
variable (i : grid0.Coords) (arg2 : Memref sig .tc .vmem S128x7168 .i8) (harg2 : arg2.IsWhole) (arg3 : Memref sig .tc .vmem S56x7168 .bf16)
  (harg3 : arg3.IsWhole) (x0 : Vec Bits S128x7168 .i8) (x1 : Vec Bits S56x7168 .bf16) (x2 : Vec Bits S16 .bf16) (k : Fin k0_t1_loop.trips)

/-- A tile of 32 packed rows read at a row and a lane. -/
theorem tile_apply (j : Fin 4) (off : Fin 2 → Nat) (inb : ∀ a, off a + S32x128.size a ≤ S128x7168.size a)
    (hoff : off = ![32 * j.val, 128 * k.val]) (p : Fin 32) (l : Fin 128) :
    View.readAt (Elt Bits) arg2.view (Rect.unit (s := S128x7168) off S32x128.size inb).toLoadRect (harg2.unread x0) (ix2 p l)
      = x0 (ix2 (⟨32 * j.val + p.val, by omega⟩ : Fin 128) (lane k l)) := by
  refine (harg2.readAt_unread x0 (Rect.unit (s := S128x7168) off S32x128.size inb).toLoadRect (ix2 p l)).trans (congrArg x0 (funext fun a => Fin.ext ?_))
  refine (ValueKit.rect_emb_unit_val (s := S128x7168) off S32x128.size inb (ix2 p l) a).trans ?_
  subst hoff
  match a with
  | ⟨0, _⟩ => rfl
  | ⟨1, _⟩ => rfl

/-- A tile of eight scale rows read at the row the table needs. -/
theorem scale_apply (f : Fin 2) (off : Fin 2 → Nat) (inb : ∀ a, off a + S8x128.size a ≤ S56x7168.size a)
    (hoff : off = ![8 * ((scaleRow i f).val / 8), 128 * k.val]) (l : Fin 128) :
    View.readAt (Elt Bits) arg3.view (Rect.unit (s := S56x7168) off S8x128.size inb).toLoadRect (harg3.unread x1)
        (ix2 (⟨(scaleRow i f).val % 8, Nat.mod_lt _ (by decide)⟩ : Fin 8) l)
      = x1 (ix2 (scaleRow i f) (lane k l)) := by
  refine (harg3.readAt_unread x1 (Rect.unit (s := S56x7168) off S8x128.size inb).toLoadRect
    (ix2 (⟨(scaleRow i f).val % 8, Nat.mod_lt _ (by decide)⟩ : Fin 8) l)).trans (congrArg x1 (funext fun a => Fin.ext ?_))
  refine (ValueKit.rect_emb_unit_val (s := S56x7168) off S8x128.size inb _ a).trans ?_
  subst hoff
  match a with
  | ⟨0, _⟩ => exact Nat.div_add_mod _ _
  | ⟨1, _⟩ => rfl

/-- The entry of half `f`'s table in a lane. -/
def entry (f : Fin 2) : IVec S16x128 16 := fun j =>
  FloatOps.mulf (F := Bits) (φ := .bf16) (there (x2 (ix1 (j 0)))) (x1 (ix2 (scaleRow i f) (lane k (j 1))))

theorem table_apply (f : Fin 2) (off : Fin 2 → Nat) (inb : ∀ a, off a + S8x128.size a ≤ S56x7168.size a)
    (hoff : off = ![8 * ((scaleRow i f).val / 8), 128 * k.val]) (p : Fin 32) (l : Fin 128) :
    tabOf (F := Bits) (k0_pay4 x2) (View.readAt (Elt Bits) arg3.view (Rect.unit (s := S56x7168) off S8x128.size inb).toLoadRect (harg3.unread x1))
        (Scalar.addi (BitVec.ofNat 32 (i 1).val) (BitVec.ofNat 32 (28 * f.val))) (ix2 p l)
      = (entry i x1 x2 k f (ix2 (⟨p.val / 2, by omega⟩ : Fin 16) l)).extractLsb' (8 * (p.val % 2)) 8 := by
  rw [tabOf_apply _ _ _ ⟨(scaleRow i f).val % 8, Nat.mod_lt _ (by decide)⟩ (twicePlace_eq f (i 1)), entry_apply,
    scale_apply i arg3 harg3 x1 k f off inb hoff l]
  rfl

/-! ## The stores -/

/-- A stored tile is a part of the block. -/
theorem store_part (f h : Fin 2) (j : Fin 4) (tab w : IVec S32x128 8)
    (htab : ∀ p l, tab (ix2 p l) = (entry i x1 x2 k f (ix2 (⟨p.val / 2, by omega⟩ : Fin 16) l)).extractLsb' (8 * (p.val % 2)) 8)
    (hw : ∀ p l, w (ix2 p l) = x0 (ix2 (⟨32 * j.val + p.val, by omega⟩ : Fin 128) (lane k l)))
    (off : Fin 3 → Nat) (inb : ∀ a, off a + S1x16x128.size a ≤ S2x128x7168.size a)
    (hoff : off = ![f.val, 32 * j.val + 16 * h.val, 128 * k.val]) (x : S1x16x128.Idx) :
    stored (F := Bits) tab (code2 (F := Bits) f w) (dup h) x
      = (fun y : S2x128x7168.Idx => blockAt i x0 x1 x2 (y 0) (y 1) (y 2)) ((Rect.unit (s := S2x128x7168) off S1x16x128.size inb).emb x) := by
  have hx : x = ix3 (0 : Fin 1) (x 1) (x 2) := by
    funext a
    match a with
    | ⟨0, _⟩ => exact Subsingleton.elim (α := Fin 1) _ _
    | ⟨1, _⟩ => rfl
    | ⟨2, _⟩ => rfl
  have hy : (Rect.unit (s := S2x128x7168) off S1x16x128.size inb).emb x
      = ix3 f (⟨32 * j.val + ((x 1).val + 16 * h.val), by have : (x 1).val < 16 := (x 1).isLt; omega⟩ : Fin 128) (lane k (x 2)) := by
    funext a
    refine Fin.ext ((ValueKit.rect_emb_unit_val (s := S2x128x7168) off S1x16x128.size inb x a).trans ?_)
    subst hoff
    match a with
    | ⟨0, _⟩ => show f.val + (x 0).val = f.val; have : (x 0).val < 1 := (x 0).isLt; omega
    | ⟨1, _⟩ => show 32 * j.val + 16 * h.val + (x 1).val = 32 * j.val + ((x 1).val + 16 * h.val); omega
    | ⟨2, _⟩ => rfl
  rw [hy]
  refine (congrArg (stored (F := Bits) tab (code2 (F := Bits) f w) (dup h)) hx).trans ?_
  refine (stored_apply tab (code2 (F := Bits) f w) (dup h) (entry i x1 x2 k f) (fun p l => nib f (w (ix2 p l))) h htab
    (fun p l => code2_apply f w p l) (fun p l => dup_apply h p l) (x 1) (x 2)).trans ?_
  refine (congrArg (fun b => entry i x1 x2 k f (ix2 (nib f b) (x 2))) (hw ⟨(x 1).val + 16 * h.val, by have : (x 1).val < 16 := (x 1).isLt; omega⟩ (x 2))).trans ?_
  rfl

/-- Every store of a trip writes a part of the block. -/
theorem trip_part (𝒱 : Variants) (c : Dev nD) (bd : Option 𝒱.V)
    (arg4 : Memref sig .tc .vmem S16 .bf16) (harg4 : arg4.IsWhole) (arg5 : Memref sig .tc .vmem S2x128x7168 .bf16) (harg5 : arg5.IsWhole) :
    ∀ p ∈ tripL_k0_t1 (F := Bits) 𝒱 c bd i arg2 harg2 arg3 harg3 arg4 harg4 arg5 harg5 (BitVec.ofNat 32 (i 1).val) x2 (harg2.unread x0) (harg3.unread x1) k,
      ∀ x, p.2 x = (fun y : S2x128x7168.Idx => blockAt i x0 x1 x2 (y 0) (y 1) (y 2)) (p.1.emb x) := by
  have t0 := table_apply i arg3 harg3 x1 x2 k 0 _ (k0_off1_inb i k 0) (scale_off i k 0)
  have t1 := table_apply i arg3 harg3 x1 x2 k 1 _ (k0_off1_inb i k 1) (scale_off i k 1)
  have u0 := tile_apply arg2 harg2 x0 k 0 _ (k0_off2_inb k) (k0_off2_eq k)
  have u1 := tile_apply arg2 harg2 x0 k 1 _ (k0_off7_inb k) (k0_off7_eq k)
  have u2 := tile_apply arg2 harg2 x0 k 2 _ (k0_off12_inb k) (k0_off12_eq k)
  have u3 := tile_apply arg2 harg2 x0 k 3 _ (k0_off17_inb k) (k0_off17_eq k)
  intro p hp
  rw [trip_eq] at hp
  simp only [List.mem_cons, List.not_mem_nil, or_false] at hp
  rcases hp with rfl | rfl | rfl | rfl | rfl | rfl | rfl | rfl | rfl | rfl | rfl | rfl | rfl | rfl | rfl | rfl
  · exact store_part i x0 x1 x2 k 1 1 3 _ _ t1 u3 (k0_off21 k) (k0_off21_inb k) (k0_off21_eq k)
  · exact store_part i x0 x1 x2 k 1 0 3 _ _ t1 u3 (k0_off20 k) (k0_off20_inb k) (k0_off20_eq k)
  · exact store_part i x0 x1 x2 k 0 1 3 _ _ t0 u3 (k0_off19 k) (k0_off19_inb k) (k0_off19_eq k)
  · exact store_part i x0 x1 x2 k 0 0 3 _ _ t0 u3 (k0_off18 k) (k0_off18_inb k) (k0_off18_eq k)
  · exact store_part i x0 x1 x2 k 1 1 2 _ _ t1 u2 (k0_off16 k) (k0_off16_inb k) (k0_off16_eq k)
  · exact store_part i x0 x1 x2 k 1 0 2 _ _ t1 u2 (k0_off15 k) (k0_off15_inb k) (k0_off15_eq k)
  · exact store_part i x0 x1 x2 k 0 1 2 _ _ t0 u2 (k0_off14 k) (k0_off14_inb k) (k0_off14_eq k)
  · exact store_part i x0 x1 x2 k 0 0 2 _ _ t0 u2 (k0_off13 k) (k0_off13_inb k) (k0_off13_eq k)
  · exact store_part i x0 x1 x2 k 1 1 1 _ _ t1 u1 (k0_off11 k) (k0_off11_inb k) (k0_off11_eq k)
  · exact store_part i x0 x1 x2 k 1 0 1 _ _ t1 u1 (k0_off10 k) (k0_off10_inb k) (k0_off10_eq k)
  · exact store_part i x0 x1 x2 k 0 1 1 _ _ t0 u1 (k0_off9 k) (k0_off9_inb k) (k0_off9_eq k)
  · exact store_part i x0 x1 x2 k 0 0 1 _ _ t0 u1 (k0_off8 k) (k0_off8_inb k) (k0_off8_eq k)
  · exact store_part i x0 x1 x2 k 1 1 0 _ _ t1 u0 (k0_off6 k) (k0_off6_inb k) (k0_off6_eq k)
  · exact store_part i x0 x1 x2 k 1 0 0 _ _ t1 u0 (k0_off5 k) (k0_off5_inb k) (k0_off5_eq k)
  · exact store_part i x0 x1 x2 k 0 1 0 _ _ t0 u0 (k0_off4 k) (k0_off4_inb k) (k0_off4_eq k)
  · exact store_part i x0 x1 x2 k 0 0 0 _ _ t0 u0 (k0_off3 k) (k0_off3_inb k) (k0_off3_eq k)

/-- … so does every store of the trips before the `n`th. -/
theorem trips_part (𝒱 : Variants) (c : Dev nD) (bd : Option 𝒱.V)
    (arg4 : Memref sig .tc .vmem S16 .bf16) (harg4 : arg4.IsWhole) (arg5 : Memref sig .tc .vmem S2x128x7168 .bf16) (harg5 : arg5.IsWhole) (n : Nat)
    (hn : n ≤ k0_t1_loop.trips) :
    ∀ p ∈ pb_k0_t1 (F := Bits) 𝒱 c bd i arg2 harg2 arg3 harg3 arg4 harg4 arg5 harg5 (BitVec.ofNat 32 (i 1).val) x2 (harg2.unread x0) (harg3.unread x1) n,
      ∀ x, p.2 x = (fun y : S2x128x7168.Idx => blockAt i x0 x1 x2 (y 0) (y 1) (y 2)) (p.1.emb x) := by
  induction n with
  | zero => intro p hp; exact absurd hp List.not_mem_nil
  | succ n ih =>
    intro p hp
    rw [pb_k0_t1_succ 𝒱 c bd i arg2 harg2 arg3 harg3 arg4 harg4 arg5 harg5 _ x2 _ _ ⟨n, hn⟩] at hp
    rcases List.mem_append.mp hp with hp | hp
    · exact trip_part i arg2 harg2 arg3 harg3 x0 x1 x2 ⟨n, hn⟩ 𝒱 c bd arg4 harg4 arg5 harg5 p hp
    · exact ih (Nat.le_of_succ_le hn) p hp

/-- THE BLOCK A GRID POINT LEAVES. -/
theorem out_eq (c : Dev nD) (arg4 : Memref sig .tc .vmem S16 .bf16) (harg4 : arg4.IsWhole) (arg5 : Memref sig .tc .vmem S2x128x7168 .bf16)
    (harg5 : arg5.IsWhole) :
    out0_A_3 (F := Bits) c i arg2 harg2 arg3 harg3 arg4 harg4 arg5 harg5 x0 x1 x2 = fun y => blockAt i x0 x1 x2 (y 0) (y 1) (y 2) := by
  have hv : View.readAt (Elt Bits) arg4.view (Rect.unit ![0] ![16] inb_S16_S16_0).toLoadRect (harg4.unread x2) = x2 := by
    funext j
    refine (harg4.readAt_unread x2 (Rect.unit ![0] ![16] inb_S16_S16_0).toLoadRect j).trans (congrArg x2 (funext fun a => Fin.ext ?_))
    refine (ValueKit.rect_emb_unit_val (s := S16) ![0] ![16] inb_S16_S16_0 j a).trans ?_
    match a with
    | ⟨0, _⟩ => exact Nat.zero_add _
  have hL : (kernelRun0_A (F := Bits) c i arg2 harg2 arg3 harg3 arg4 harg4 arg5 harg5 x0 x1 x2).1
      = pb_k0_t1 Variants.none c none i arg2 harg2 arg3 harg3 arg4 harg4 arg5 harg5 (BitVec.ofNat 32 (i 1).val) x2 (harg2.unread x0) (harg3.unread x1)
          k0_t1_loop.trips := by
    unfold kernelRun0_A
    dsimp only
    rw [hv]
  funext y
  refine View.read_writes_apply_of_pieces _ _ (fun y : S2x128x7168.Idx => blockAt i x0 x1 x2 (y 0) (y 1) (y 2)) _ ?_ y
    (cover0_A_3 c i arg2 harg2 arg3 harg3 arg4 harg4 arg5 harg5 x0 x1 x2 y)
  rw [hL]
  exact trips_part i arg2 harg2 arg3 harg3 x0 x1 x2 Variants.none c none arg4 harg4 arg5 harg5 _ (Nat.le_refl _)

end

end Cert.Nf4

end
-- ==== Proof.Weight.lean ====
/- THE WEIGHT AT A PLACE, which both programs compute. Entry `(f, ρ, l)` is the table entry at half `f`'s code of packed byte
   `(ρ, l)`, times the scale of row group `ρ / 128 + 28 f` in column `l`, the product rounded once to 16 bits. Widening a
   16-bit number to 32 bits and rounding it back changes nothing that the product sees. -/
module

public import proofs.«01_k».proof.Proof.Table
public import Idealize.ShloMosaic.Lib.Bf16RoundTrip

@[expose] public section

noncomputable section

namespace Cert.Nf4

open Idealize.ShloMosaic
open Idealize.ShloMosaic.ValueIdx (ix1 ix2 ix3)

/-- The product forgets the widening and rounding back. -/
theorem mulf_there (x s : Bits .bf16) : FloatOps.mulf (F := Bits) (φ := .bf16) (there x) s = FloatOps.mulf (F := Bits) (φ := .bf16) x s := by
  show Bits.truncf32to16 (Bits.mulf32 (Bits.extf16to32 (Bits.truncf32to16 (Bits.extf16to32 x))) (Bits.extf16to32 s))
    = Bits.truncf32to16 (Bits.mulf32 (Bits.extf16to32 x) (Bits.extf16to32 s))
  rw [Bits.extf16to32_truncf32to16_extf16to32]

/-- The row of scales of a packed row in a half. -/
def group (f : Fin 2) (r : Fin 3584) : Fin 56 := ⟨r.val / 128 + 28 * f.val, by omega⟩

/-- The weight at a place. -/
def weight (w : (⟨2, ![3584, 28672]⟩ : Shape).Idx → BitVec 8) (s : (⟨2, ![56, 28672]⟩ : Shape).Idx → Bits .bf16)
    (t : (⟨1, ![16]⟩ : Shape).Idx → Bits .bf16) (f : Fin 2) (r : Fin 3584) (l : Fin 28672) : Bits .bf16 :=
  FloatOps.mulf (F := Bits) (φ := .bf16) (t (ix1 (nib f (w (ix2 r l))))) (s (ix2 (group f r) l))

/-- The half a row of the result lies in, and its row there. -/
def halfOf (r : Fin 7168) : Fin 2 := ⟨r.val / 3584, by omega⟩
def rowOf (r : Fin 7168) : Fin 3584 := ⟨r.val % 3584, by omega⟩

/-- The whole result. -/
def weights (w : (⟨2, ![3584, 28672]⟩ : Shape).Idx → BitVec 8) (s : (⟨2, ![56, 28672]⟩ : Shape).Idx → Bits .bf16)
    (t : (⟨1, ![16]⟩ : Shape).Idx → Bits .bf16) : (⟨2, ![7168, 28672]⟩ : Shape).Idx → Bits .bf16 :=
  fun y => weight w s t (halfOf (y 0)) (rowOf (y 0)) (y 1)

end Cert.Nf4

end
-- ==== Proof.Array.lean ====
/- THE KERNEL'S RESULT. Grid point `(i₀, i₁)` writes the block of packed rows `128 i₁ …` and columns `7168 i₀ …` of both
   halves; each block is a part of one array, the blocks tile it, and the reshape after the grid lays the two halves one
   under the other. -/
module

public import proofs.«01_k».proof.Proof.Block
public import proofs.«01_k».proof.Proof.Weight
public import Idealize.ShloMosaic.Lib.Pipeline.ValueKit.Geometry

@[expose] public section

set_option maxRecDepth 16384

noncomputable section

namespace Cert.Nf4

open Idealize.ShloMosaic Idealize.ShloMosaic.TcCoe Idealize.SL.Sem Cert.Kernel Cert.Kernel.Gen
open Idealize.ShloMosaic.Pipeline (Dat)
open Idealize.ShloMosaic.ValueIdx (ix1 ix2 ix3)

/-! ## Which block each window holds -/

theorem index_w : ∀ t : Fin grid0.N, win0_0.index t = ![(grid0.coords t 1).val, (grid0.coords t 0).val] := by decide +kernel
theorem index_s : ∀ t : Fin grid0.N, win0_1.index t = ![0, (grid0.coords t 0).val] := by decide +kernel
theorem index_t : ∀ t : Fin grid0.N, win0_2.index t = ![0] := by decide +kernel
theorem index_o : ∀ t : Fin grid0.N, win0_3.index t = ![0, (grid0.coords t 1).val, (grid0.coords t 0).val] := by decide +kernel

variable (m : (ℓ : Loc nD τ sig) → Buf (Elt Bits) ℓ) (ρ : Dev nD → PrngReg)

/-- The array of both halves. -/
def halves (c : Dev nD) : S2x3584x28672.Idx → Bits .bf16 := fun y =>
  weight (m ((c : Thread nD τ).loc main_arg0)) (m ((c : Thread nD τ).loc main_arg1)) (m ((c : Thread nD τ).loc main_arg2)) (y 0) (y 1) (y 2)

/-- The packed row and the column of a place of a block. -/
def rowAt (t : Fin grid0.N) (r : Fin 128) : Fin 3584 := ⟨(grid0.coords t 1).val * 128 + r.val, by have : (grid0.coords t 1).val < 28 := (grid0.coords t 1).isLt; omega⟩
def colAt (t : Fin grid0.N) (l : Fin 7168) : Fin 28672 := ⟨(grid0.coords t 0).val * 7168 + l.val, by have : (grid0.coords t 0).val < 4 := (grid0.coords t 0).isLt; omega⟩

theorem block_w (c : Dev nD) (t : Fin cfg0.N) (r : Fin 128) (l : Fin 7168) :
    iblk m c 0 t (ix2 r l) = m ((c : Thread nD τ).loc main_arg0) (ix2 (rowAt t r) (colAt t l)) := by
  refine congrArg (m ((c : Thread nD τ).loc main_arg0)) (funext fun a => Fin.ext ?_)
  match a with
  | ⟨0, _⟩ => blk_simp [index_w]; rfl
  | ⟨1, _⟩ => blk_simp [index_w]; rfl

theorem block_s (c : Dev nD) (t : Fin cfg0.N) (g : Fin 56) (l : Fin 7168) :
    iblk m c 1 t (ix2 g l) = m ((c : Thread nD τ).loc main_arg1) (ix2 g (colAt t l)) := by
  refine congrArg (m ((c : Thread nD τ).loc main_arg1)) (funext fun a => Fin.ext ?_)
  match a with
  | ⟨0, _⟩ => blk_simp [index_s]
  | ⟨1, _⟩ => blk_simp [index_s]; rfl

theorem block_t (c : Dev nD) (t : Fin cfg0.N) (n : Fin 16) :
    iblk m c 2 t (ix1 n) = m ((c : Thread nD τ).loc main_arg2) (ix1 n) := by
  refine congrArg (m ((c : Thread nD τ).loc main_arg2)) (funext fun a => Fin.ext ?_)
  match a with
  | ⟨0, _⟩ => blk_simp [index_t]

/-- A place of a block whose inputs are parts of the arguments holds a weight. -/
theorem block_weight (i : grid0.Coords) (x0 : Vec Bits S128x7168 .i8) (x1 : Vec Bits S56x7168 .bf16) (x2 : Vec Bits S16 .bf16)
    (w : S3584x28672.Idx → BitVec 8) (s : S56x28672.Idx → Bits .bf16) (t : S16.Idx → Bits .bf16)
    (f : Fin 2) (r : Fin 128) (l : Fin 7168) (R : Fin 3584) (L : Fin 28672)
    (hw : x0 (ix2 r l) = w (ix2 R L)) (hs : ∀ g, x1 (ix2 g l) = s (ix2 g L)) (ht : ∀ n, x2 (ix1 n) = t (ix1 n))
    (hg : scaleRow i f = group f R) : blockAt i x0 x1 x2 f r l = weight w s t f R L := by
  unfold blockAt weight
  rw [mulf_there, ht, hs, hw, hg]

/-- A grid point's block is a part of the array. -/
theorem block_eq (c : Dev nD) (t : Fin cfg0.N) (y : S2x128x7168.Idx) :
    outsAt0 m c t y = halves m c (ix3 (y 0) (rowAt t (y 1)) (colAt t (y 2))) := by
  have hg : scaleRow (grid0.coords t) (y 0) = group (y 0) (rowAt t (y 1)) := by
    refine Fin.ext ?_
    have : (y 1).val < 128 := (y 1).isLt
    show (grid0.coords t 1).val + 28 * (y 0).val = ((grid0.coords t 1).val * 128 + (y 1).val) / 128 + 28 * (y 0).val
    omega
  unfold outsAt0
  refine (congrFun (out_eq (grid0.coords t) (ms0_0 t) (hs0_0 t) (ms0_1 t) (hs0_1 t) (iblk m c 0 t) (iblk m c 1 t) (iblk m c 2 t) c
    (ms0_2 t) (hs0_2 t) (ms0_3 t) (hs0_3 t)) y).trans ?_
  exact block_weight (grid0.coords t) (iblk m c 0 t) (iblk m c 1 t) (iblk m c 2 t) _ _ _ (y 0) (y 1) (y 2) (rowAt t (y 1)) (colAt t (y 2))
    (block_w m c t (y 1) (y 2)) (fun g => block_s m c t g (y 2)) (fun n => block_t m c t n) hg

/-- The array after the grid. -/
theorem array_eq (c : Dev nD) : (dats m 0 c).arrAt 3 cfg0.N = halves m c := by
  refine (dats m 0 c).arrAt_eq_of_covers 3 _ (by decide +kernel) fun t _ y => ?_
  blk_simp
  rw [after0_3]
  refine (block_eq m c t y).trans (congrArg (halves m c) (funext fun a => Fin.ext ?_))
  match a with
  | ⟨0, _⟩ => blk_simp [index_o]; simp
  | ⟨1, _⟩ => blk_simp [index_o]; rfl
  | ⟨2, _⟩ => blk_simp [index_o]; rfl

/-- The reshape after the grid. -/
theorem reshaped (c : Dev nD) :
    Pipeline.afterTail₀ cfgs (dats m) 0 (V0 m) [hostOps1] c main_v1
      = shapeCast S7168x28672 ((dats m 0 c).arrAt 3 cfg0.N) shapeCasts_S2x3584x28672_S7168x28672 := by
  have h : Pipeline.withArrays (cfgs 0).spec c (V0 m c) (fun w => (dats m 0 c).arrAt w (cfgs 0).N) (Proc.devRef .tc main_v0)
      = (dats m 0 c).arrAt 3 cfg0.N :=
    Pipeline.withArrays_arr spec0 (by decide) c (V0 m c) (fun w => (dats m 0 c).arrAt w cfg0.N) 3
  rw [← h]
  unfold Pipeline.afterTail₀
  show StableHlo.after [StableHlo.reshape main_v0 main_v1 (rfl : (.bf16 : EltTy) = .bf16) shapeCasts_S2x3584x28672_S7168x28672] _ _ = _
  after_results_simp
  rfl

/-- Laying the halves one under the other. -/
theorem stacked (c : Dev nD) : shapeCast S7168x28672 (halves m c) shapeCasts_S2x3584x28672_S7168x28672
    = weights (m ((c : Thread nD τ).loc main_arg0)) (m ((c : Thread nD τ).loc main_arg1)) (m ((c : Thread nD τ).loc main_arg2)) := by
  funext y
  refine (shapeCast_apply (halves m c) shapeCasts_S2x3584x28672_S7168x28672 y (ix3 (halfOf (y 0)) (rowOf (y 0)) (y 1)) ?_).trans rfl
  rw [Shape.rowMajor_val_two, Shape.rowMajor_val_three]
  show ((y 0).val / 3584 * 3584 + (y 0).val % 3584) * 28672 + (y 1).val = (y 0).val * 28672 + (y 1).val
  omega

/-- THE KERNEL RUNS, leaves the weights in its result and its arguments as they were. -/
theorem kernel_run : θ_run defs (onTc (τ := τ) (main (F := Bits))) ⟨m, fun _ => 0, ρ⟩ fun r => ∀ c : Dev nD,
      r.2.mem ((c.tc : Thread nD τ).loc main_v1)
        = weights (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h c).2 main_v1 (by decide)).trans ((reshaped m c).trans ((congrArg
        (fun A => shapeCast S7168x28672 A shapeCasts_S2x3584x28672_S7168x28672) (array_eq m c)).trans (stacked m c))),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.Nf4

end
-- ==== Proof.Plain.lean ====
/- WHAT THE REFERENCE COMPUTES. It widens the packed bytes, shifts them by 0 or 4 for the two halves, keeps four bits, picks
   one of the sixteen table entries by the bits from the highest down, and multiplies by the scale of the row group. At every
   place the picked entry is the table at the code, so its result is the weights. -/
module

public import proofs.«01_k».proof.Proof.Weight
public import proofs.«01_k».proof.Proof.Gen.Reference.Run
public import Idealize.ShloMosaic.Lib.Pipeline.Value

@[expose] public section

set_option maxRecDepth 16384

noncomputable section

namespace Cert.Nf4

open Idealize.ShloMosaic Idealize.ShloMosaic.TcCoe Idealize.SL.Sem Cert.Reference Cert.Reference.Gen
open Idealize.ShloMosaic.ValueIdx (ix1 ix2 ix3 ix4)

/-! ## The reference's arrays, named -/

/-- The codes of both halves. -/
def codes (w : IVec S3584x28672 8) : IVec S2x3584x28672 32 :=
  andi (Host.shrsi (broadcastInDim S2x3584x28672 ![0, 1, 2] bcast_S1x3584x28672_S2x3584x28672_0_1_2
      (broadcastInDim S1x3584x28672 ![1, 2] bcast_S3584x28672_S1x3584x28672_1_2 (extui 32 w natLt_8_32)))
    (broadcastInDim S2x3584x28672 ![0, 1, 2] bcast_S2x1x1_S2x3584x28672_0_1_2
      (shapeCast S2x1x1 (fun i => lit0 (S2.rowMajor i)) shapeCasts_S2_S2x1x1)))
    (broadcastInDim S2x3584x28672 ![] bcast_S_S2x3584x28672 (constantI S_ 32 15#32))

/-- Whether a bit of every code is set. -/
def bit (x : IVec S2x3584x28672 32) (b : BitVec 32) : IVec S2x3584x28672 1 :=
  cmpi .ne (andi (Host.shrsi x (broadcastInDim S2x3584x28672 ![] bcast_S_S2x3584x28672 (constantI S_ 32 b)))
      (broadcastInDim S2x3584x28672 ![] bcast_S_S2x3584x28672 (constantI S_ 32 1#32)))
    (broadcastInDim S2x3584x28672 ![] bcast_S_S2x3584x28672 (constantI S_ 32 0#32))

/-- A table entry at every place. -/
def level (t : FVec Bits S16 .bf16) (k : Nat) (h : S16.Slices ![k] S1) : FVec Bits S2x3584x28672 .bf16 :=
  broadcastInDim S2x3584x28672 ![] bcast_S_S2x3584x28672 (shapeCast S_ (extractStridedSlice S1 ![k] t h) shapeCasts_S1_S_)

/-- The picked entries. -/
def picked (w : IVec S3584x28672 8) (t : FVec Bits S16 .bf16) : FVec Bits S2x3584x28672 .bf16 :=
  (select (bit (codes w) 3#32)
    (select (bit (codes w) 2#32)
      (select (bit (codes w) 1#32)
        (select (bit (codes w) 0#32)
          (level t 15 slices_S16_S1_15)
          (level t 14 slices_S16_S1_14))
        (select (bit (codes w) 0#32)
          (level t 13 slices_S16_S1_13)
          (level t 12 slices_S16_S1_12)))
      (select (bit (codes w) 1#32)
        (select (bit (codes w) 0#32)
          (level t 11 slices_S16_S1_11)
          (level t 10 slices_S16_S1_10))
        (select (bit (codes w) 0#32)
          (level t 9 slices_S16_S1_9)
          (level t 8 slices_S16_S1_8))))
    (select (bit (codes w) 2#32)
      (select (bit (codes w) 1#32)
        (select (bit (codes w) 0#32)
          (level t 7 slices_S16_S1_7)
          (level t 6 slices_S16_S1_6))
        (select (bit (codes w) 0#32)
          (level t 5 slices_S16_S1_5)
          (level t 4 slices_S16_S1_4)))
      (select (bit (codes w) 1#32)
        (select (bit (codes w) 0#32)
          (level t 3 slices_S16_S1_3)
          (level t 2 slices_S16_S1_2))
        (select (bit (codes w) 0#32)
          (level t 1 slices_S16_S1_1)
          (level t 0 slices_S16_S1_0)))))

/-- The reference's result as one function of its arguments. -/
def plain (w : IVec S3584x28672 8) (s : FVec Bits S56x28672 .bf16) (t : FVec Bits S16 .bf16) : FVec Bits S7168x28672 .bf16 :=
  shapeCast S7168x28672 (mulf (shapeCast S2x28x128x28672 (picked w t) shapeCasts_S2x3584x28672_S2x28x128x28672)
    (broadcastInDim S2x28x128x28672 ![0, 1, 2, 3] bcast_S2x28x1x28672_S2x28x128x28672_0_1_2_3
      (shapeCast S2x28x1x28672 s shapeCasts_S56x28672_S2x28x1x28672))) shapeCasts_S2x28x128x28672_S7168x28672

theorem res_eq (m : (ℓ : Loc nD τ sig) → Buf (Elt Bits) ℓ) (c : Dev nD) :
    Cert.Reference.Value.res_main_v83 m c
      = plain (m ((c.tc : Thread nD τ).loc main_arg0)) (m ((c.tc : Thread nD τ).loc main_arg1)) (m ((c.tc : Thread nD τ).loc main_arg2)) := by
  unfold Cert.Reference.Value.res_main_v83 plain picked bit level codes
  rfl

/-! ## The same arrays at a place -/

/-- The one index of a number. -/
def the : S_.Idx := fun a => a.elim0

/-- A broadcast of one number. -/
theorem splat_apply {α : Type} (x : S_.Idx → α) (j : S2x3584x28672.Idx) (k : S_.Idx) :
    broadcastInDim S2x3584x28672 ![] bcast_S_S2x3584x28672 x j = x k :=
  broadcastInDim_apply ![] bcast_S_S2x3584x28672 x j k fun a => a.elim0

/-- A shifted byte's low four bits are its code in the half. -/
theorem code_word : ∀ (f : Fin 2) (b : BitVec 8),
    IntOp.andi (IntOp.shrsi .host (b.setWidth 32) (lit0 f)) 15#32 = BitVec.ofNat 32 (nib f b).val := by
  intro f b
  obtain ⟨n, rfl⟩ : ∃ n : Fin 256, BitVec.ofFin (w := 8) n = b := ⟨b.toFin, rfl⟩
  revert f n
  decide +kernel

/-- A shift and a mask at a place. -/
theorem shifted_apply (x y : IVec S2x3584x28672 32) (j : S2x3584x28672.Idx) (a b : BitVec 32) (hx : x j = a) (hy : y j = b) :
    andi (Host.shrsi x y) (broadcastInDim S2x3584x28672 ![] bcast_S_S2x3584x28672 (constantI S_ 32 15#32)) j
      = IntOp.andi (IntOp.shrsi .host a b) 15#32 := by
  subst hx hy
  rfl

theorem codes_apply (w : IVec S3584x28672 8) (f : Fin 2) (r : Fin 3584) (l : Fin 28672) :
    codes w (ix3 f r l) = BitVec.ofNat 32 (nib f (w (ix2 r l))).val := by
  have h1 : broadcastInDim S2x3584x28672 ![0, 1, 2] bcast_S1x3584x28672_S2x3584x28672_0_1_2
      (broadcastInDim S1x3584x28672 ![1, 2] bcast_S3584x28672_S1x3584x28672_1_2 (extui 32 w natLt_8_32)) (ix3 f r l)
      = (w (ix2 r l)).setWidth 32 := by
    refine (broadcastInDim_apply ![0, 1, 2] bcast_S1x3584x28672_S2x3584x28672_0_1_2 _ (ix3 f r l) (ix3 (0 : Fin 1) r l) ?_).trans
      ((broadcastInDim_apply ![1, 2] bcast_S3584x28672_S1x3584x28672_1_2 (extui 32 w natLt_8_32) (ix3 (0 : Fin 1) r l) (ix2 r l) ?_).trans rfl)
    · intro a; match a with
      | ⟨0, _⟩ => rfl
      | ⟨1, _⟩ => rfl
      | ⟨2, _⟩ => rfl
    · intro a; match a with
      | ⟨0, _⟩ => rfl
      | ⟨1, _⟩ => rfl
  have h2 : broadcastInDim S2x3584x28672 ![0, 1, 2] bcast_S2x1x1_S2x3584x28672_0_1_2
      (shapeCast S2x1x1 (fun i => lit0 (S2.rowMajor i)) shapeCasts_S2_S2x1x1) (ix3 f r l) = lit0 f := by
    refine (broadcastInDim_apply ![0, 1, 2] bcast_S2x1x1_S2x3584x28672_0_1_2 _ (ix3 f r l) (ix3 f (0 : Fin 1) (0 : Fin 1)) ?_).trans
      ((shapeCast_apply (fun i => lit0 (S2.rowMajor i)) shapeCasts_S2_S2x1x1 (ix3 f (0 : Fin 1) (0 : Fin 1)) (ix1 f) ?_).trans ?_)
    · intro a; match a with
      | ⟨0, _⟩ => rfl
      | ⟨1, _⟩ => rfl
      | ⟨2, _⟩ => rfl
    · rw [Shape.rowMajor_val_one, Shape.rowMajor_val_three]
      show f.val = (f.val * 1 + 0) * 1 + 0
      omega
    · refine congrArg lit0 (Fin.ext ?_)
      exact Shape.rowMajor_val_one (ix1 f)
  exact (shifted_apply _ _ (ix3 f r l) _ _ h1 h2).trans (code_word f (w (ix2 r l)))

/-- Whether a bit of one code is set. -/
def bitOf (x b : BitVec 32) : BitVec 1 := IntOp.cmpi .ne (IntOp.andi (IntOp.shrsi .host x b) 1#32) 0#32

theorem bit_apply (x : IVec S2x3584x28672 32) (b : BitVec 32) (j : S2x3584x28672.Idx) : bit x b j = bitOf (x j) b := rfl

theorem level_apply (t : FVec Bits S16 .bf16) (k : Nat) (h : S16.Slices ![k] S1) (j : S2x3584x28672.Idx) (hk : k < 16) :
    level t k h j = t (ix1 ⟨k, hk⟩) := by
  refine (splat_apply _ j the).trans ?_
  refine (shapeCast_apply (extractStridedSlice S1 ![k] t h) shapeCasts_S1_S_ the (ix1 (0 : Fin 1)) rfl).trans ?_
  refine extractStridedSlice_apply ![k] t h (ix1 (0 : Fin 1)) (ix1 ⟨k, hk⟩) fun a => ?_
  match a with
  | ⟨0, _⟩ => rfl

/-- A bit of a code, as a truth value. -/
theorem bitOf_nat : ∀ (n : Fin 16) (b : Fin 4), bitOf (BitVec.ofNat 32 n.val) (BitVec.ofNat 32 b.val) = BitVec.ofBool (n.val.testBit b.val) := by
  decide +kernel

/-- A choice by a truth value. -/
theorem select_bool {α : Type} (b : Bool) (x y : α) : Scalar.select (BitVec.ofBool b) x y = bif b then x else y := by
  cases b <;> rfl

/-- Choosing by the four bits of a code is reading at the code. -/
theorem choose {α : Type} (T : Fin 16 → α) (n : Fin 16) :
    Scalar.select (bitOf (BitVec.ofNat 32 n.val) 3#32) (Scalar.select (bitOf (BitVec.ofNat 32 n.val) 2#32) (Scalar.select (bitOf (BitVec.ofNat 32 n.val) 1#32) (Scalar.select (bitOf (BitVec.ofNat 32 n.val) 0#32) (T 15) (T 14)) (Scalar.select (bitOf (BitVec.ofNat 32 n.val) 0#32) (T 13) (T 12))) (Scalar.select (bitOf (BitVec.ofNat 32 n.val) 1#32) (Scalar.select (bitOf (BitVec.ofNat 32 n.val) 0#32) (T 11) (T 10)) (Scalar.select (bitOf (BitVec.ofNat 32 n.val) 0#32) (T 9) (T 8)))) (Scalar.select (bitOf (BitVec.ofNat 32 n.val) 2#32) (Scalar.select (bitOf (BitVec.ofNat 32 n.val) 1#32) (Scalar.select (bitOf (BitVec.ofNat 32 n.val) 0#32) (T 7) (T 6)) (Scalar.select (bitOf (BitVec.ofNat 32 n.val) 0#32) (T 5) (T 4))) (Scalar.select (bitOf (BitVec.ofNat 32 n.val) 1#32) (Scalar.select (bitOf (BitVec.ofNat 32 n.val) 0#32) (T 3) (T 2)) (Scalar.select (bitOf (BitVec.ofNat 32 n.val) 0#32) (T 1) (T 0))))
      = T n := by
  rw [show bitOf (BitVec.ofNat 32 n.val) 0#32 = _ from bitOf_nat n 0, show bitOf (BitVec.ofNat 32 n.val) 1#32 = _ from bitOf_nat n 1,
    show bitOf (BitVec.ofNat 32 n.val) 2#32 = _ from bitOf_nat n 2, show bitOf (BitVec.ofNat 32 n.val) 3#32 = _ from bitOf_nat n 3]
  simp only [select_bool]
  fin_cases n <;> rfl

theorem picked_apply (w : IVec S3584x28672 8) (t : FVec Bits S16 .bf16) (f : Fin 2) (r : Fin 3584) (l : Fin 28672) :
    picked w t (ix3 f r l) = t (ix1 (nib f (w (ix2 r l)))) := by
  refine Eq.trans ?_ (choose (fun n => t (ix1 n)) (nib f (w (ix2 r l))))
  rw [← codes_apply w f r l]
  have hl := fun k h hk => level_apply t k h (ix3 f r l) hk
  unfold picked
  simp only [select, bit_apply]
  rw [hl 0 slices_S16_S1_0 (by decide), hl 1 slices_S16_S1_1 (by decide), hl 2 slices_S16_S1_2 (by decide), hl 3 slices_S16_S1_3 (by decide), hl 4 slices_S16_S1_4 (by decide), hl 5 slices_S16_S1_5 (by decide), hl 6 slices_S16_S1_6 (by decide), hl 7 slices_S16_S1_7 (by decide), hl 8 slices_S16_S1_8 (by decide), hl 9 slices_S16_S1_9 (by decide), hl 10 slices_S16_S1_10 (by decide), hl 11 slices_S16_S1_11 (by decide), hl 12 slices_S16_S1_12 (by decide), hl 13 slices_S16_S1_13 (by decide), hl 14 slices_S16_S1_14 (by decide), hl 15 slices_S16_S1_15 (by decide)]
  rfl

/-- THE REFERENCE'S RESULT is the weights. -/
theorem plain_eq (w : IVec S3584x28672 8) (s : FVec Bits S56x28672 .bf16) (t : FVec Bits S16 .bf16) : plain w s t = weights w s t := by
  funext y
  have hr : (y 0).val < 7168 := (y 0).isLt
  refine (shapeCast_apply _ shapeCasts_S2x28x128x28672_S7168x28672 y
    (ix4 (halfOf (y 0)) (⟨(y 0).val % 3584 / 128, by omega⟩ : Fin 28) (⟨(y 0).val % 128, by omega⟩ : Fin 128) (y 1)) ?_).trans ?_
  · rw [Shape.rowMajor_val_two, Shape.rowMajor_val_four]
    show (((y 0).val / 3584 * 28 + (y 0).val % 3584 / 128) * 128 + (y 0).val % 128) * 28672 + (y 1).val = (y 0).val * 28672 + (y 1).val
    omega
  refine congrArg₂ (FloatOps.mulf (F := Bits) (φ := .bf16)) ?_ ?_
  · refine (shapeCast_apply (picked w t) shapeCasts_S2x3584x28672_S2x28x128x28672 _ (ix3 (halfOf (y 0)) (rowOf (y 0)) (y 1)) ?_).trans
      (picked_apply w t (halfOf (y 0)) (rowOf (y 0)) (y 1))
    rw [Shape.rowMajor_val_three, Shape.rowMajor_val_four]
    show ((y 0).val / 3584 * 3584 + (y 0).val % 3584) * 28672 + (y 1).val
      = (((y 0).val / 3584 * 28 + (y 0).val % 3584 / 128) * 128 + (y 0).val % 128) * 28672 + (y 1).val
    omega
  · refine (broadcastInDim_apply ![0, 1, 2, 3] bcast_S2x28x1x28672_S2x28x128x28672_0_1_2_3 _ _
      (ix4 (halfOf (y 0)) (⟨(y 0).val % 3584 / 128, by omega⟩ : Fin 28) (0 : Fin 1) (y 1)) ?_).trans
      (shapeCast_apply s shapeCasts_S56x28672_S2x28x1x28672 _ (ix2 (group (halfOf (y 0)) (rowOf (y 0))) (y 1)) ?_)
    · intro a; match a with
      | ⟨0, _⟩ => rfl
      | ⟨1, _⟩ => rfl
      | ⟨2, _⟩ => rfl
      | ⟨3, _⟩ => rfl
    · rw [Shape.rowMajor_val_two, Shape.rowMajor_val_four]
      show ((y 0).val % 3584 / 128 + 28 * ((y 0).val / 3584)) * 28672 + (y 1).val
        = (((y 0).val / 3584 * 28 + (y 0).val % 3584 / 128) * 1 + 0) * 28672 + (y 1).val
      omega

end Cert.Nf4

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.Reference.Run
public import proofs.«01_k».proof.Proof.Gen.Reference
public import proofs.«01_k».proof.Proof.Array
public import proofs.«01_k».proof.Proof.Plain
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The kernel runs to its end, keeps its arguments and leaves every semaphore at zero. -/
theorem frame_p : Cert.quiescent_Kernel := fun m ρ _ => Cert.Kernel.Gen.frame m ρ

/-- The reference runs to its end and keeps its arguments; it has no semaphore. -/
theorem frame_r : Cert.quiescent_Reference := fun m ρ _ =>
  (θ_run Cert.Reference.defs _ _).mono (fun r h => ⟨fun c => (h c).2,
      sem_eq_zero_of_no_sems (by decide) r.2⟩)
    (Cert.Reference.Value.run (F := Bits) m ρ)

/-- From equal arguments the two programs leave equal results: both leave the weights. -/
theorem bitexact : Cert.bitexact_Kernel_Reference := by
  intro m ρ m' ρ' _ hagree
  refine ⟨_, Cert.Nf4.kernel_run m ρ, ?_⟩
  refine (θ_run Cert.Reference.defs _ _).mono (fun _ h c => ⟨(h c).1.trans ?_, (h c).2⟩) (Cert.Reference.Value.run (F := Bits) m' ρ')
  refine (Cert.Nf4.res_eq m' c).trans ((Cert.Nf4.plain_eq _ _ _).trans ?_)
  rw [(hagree c).1, (hagree c).2.1, (hagree c).2.2]

theorem claim : Cert.Claim := ⟨Cert.Kernel.Gen.facts, Cert.Reference.Gen.facts, frame_p, frame_r, bitexact⟩

end Cert.Proof

end
